-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_experts [hPre_finite_experts : Cert.Pre_finite_experts.Facts] (m : (ℓ : Loc Cert.KernelIdeal.nD Cert.KernelIdeal.τ Cert.KernelIdeal.sig) → Buf (Elt Ideal) ℓ) : Prop :=
  ∀ c : Dev Cert.KernelIdeal.nD,
    (Cert.Pre_finite_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite_experts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_experts [hPre_finite_experts : Cert.Pre_finite_experts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite_experts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_experts [hKernelIdeal : Cert.KernelIdeal.Facts] [hPre_finite_experts : Cert.Pre_finite_experts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_experts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_experts [hReferenceIdeal : Cert.ReferenceIdeal.Facts] [hPre_finite_experts : Cert.Pre_finite_experts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_experts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_experts [hKernelIdeal : Cert.KernelIdeal.Facts] [hReferenceIdeal : Cert.ReferenceIdeal.Facts] [hPre_finite_experts : Cert.Pre_finite_experts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_experts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_experts : Cert.Pre_finite_experts.Facts),
    quiescent_Kernel (hKernel := hKernel)
    ∧ quiescent_KernelIdeal (hKernelIdeal := hKernelIdeal)
    ∧ quiescent_KernelIdeal_pre_finite_experts (hKernelIdeal := hKernelIdeal) (hPre_finite_experts := hPre_finite_experts)
    ∧ quiescent_ReferenceIdeal (hReferenceIdeal := hReferenceIdeal)
    ∧ quiescent_ReferenceIdeal_pre_finite_experts (hReferenceIdeal := hReferenceIdeal) (hPre_finite_experts := hPre_finite_experts)
    ∧ preserves_Kernel_KernelIdeal
    ∧ algebraic_KernelIdeal_ReferenceIdeal_pre_finite_experts (hKernelIdeal := hKernelIdeal) (hReferenceIdeal := hReferenceIdeal) (hPre_finite_experts := hPre_finite_experts)
-- ==== Pre_finite_experts.lean ====
abbrev S4x2048x64 : Shape := ⟨3, ![4, 2048, 64]⟩
abbrev S64x8 : Shape := ⟨2, ![64, 8]⟩
abbrev S8 : Shape := ⟨1, ![8]⟩
abbrev S8x64x128 : Shape := ⟨3, ![8, 64, 128]⟩
abbrev S8x128 : Shape := ⟨2, ![8, 128]⟩
abbrev S256x256x5 : Shape := ⟨3, ![256, 256, 5]⟩
abbrev S256 : Shape := ⟨1, ![256]⟩
abbrev S_ : Shape := ⟨0, ![]⟩

class Facts : Prop where
  bcast_S_S4x2048x64 : S_.BroadcastsInDim S4x2048x64 (![] : Fin 0 → Fin S4x2048x64.rank)
  bcast_S_S8x64x128 : S_.BroadcastsInDim S8x64x128 (![] : Fin 0 → Fin S8x64x128.rank)
  bcast_S_S8x128 : S_.BroadcastsInDim S8x128 (![] : Fin 0 → Fin S8x128.rank)

variable [Facts]

def fn {F : FTy → Type} [FloatOps F] (main_arg0 : FVec F S4x2048x64 .f32) (main_arg1 : FVec F S4x2048x64 .f32) (main_arg2 : FVec F S64x8 .f32) (main_arg3 : FVec F S8 .f32) (main_arg4 : FVec F S8x64x128 .f32) (main_arg5 : FVec F S8x128 .f32) (main_arg6 : FVec F S64x8 .f32) (main_arg7 : FVec F S8 .f32) (main_arg8 : FVec F S8x64x128 .f32) (main_arg9 : FVec F S8x128 .f32) (main_arg10 : FVec F S256x256x5 .f32) (main_arg11 : FVec F S256 .f32) : IVec S4x2048x64 1 × IVec S4x2048x64 1 × IVec S8x64x128 1 × IVec S8x128 1 × IVec S8x64x128 1 × IVec S8x128 1 :=
  let main_v0 : FVec F S4x2048x64 .f32 := Host.absf main_arg0
  let main_cst : FVec F S_ .f32 := constant S_ .f32 0x7F800000#32
  let main_v1 : FVec F S4x2048x64 .f32 := broadcastInDim S4x2048x64 ![] bcast_S_S4x2048x64 main_cst
  let main_v2 : IVec S4x2048x64 1 := cmpf .olt main_v0 main_v1
  let main_v3 : FVec F S4x2048x64 .f32 := Host.absf main_arg1
  let main_cst_0 : FVec F S_ .f32 := constant S_ .f32 0x7F800000#32
  let main_v4 : FVec F S4x2048x64 .f32 := broadcastInDim S4x2048x64 ![] bcast_S_S4x2048x64 main_cst_0
  let main_v5 : IVec S4x2048x64 1 := cmpf .olt main_v3 main_v4
  let main_v6 : FVec F S8x64x128 .f32 := Host.absf main_arg4
  let main_cst_1 : FVec F S_ .f32 := constant S_ .f32 0x7F800000#32
  let main_v7 : FVec F S8x64x128 .f32 := broadcastInDim S8x64x128 ![] bcast_S_S8x64x128 main_cst_1
  let main_v8 : IVec S8x64x128 1 := cmpf .olt main_v6 main_v7
  let main_v9 : FVec F S8x128 .f32 := Host.absf main_arg5
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_v12 : FVec F S8x64x128 .f32 := Host.absf main_arg8
  let main_cst_3 : FVec F S_ .f32 := constant S_ .f32 0x7F800000#32
  let main_v13 : FVec F S8x64x128 .f32 := broadcastInDim S8x64x128 ![] bcast_S_S8x64x128 main_cst_3
  let main_v14 : IVec S8x64x128 1 := cmpf .olt main_v12 main_v13
  let main_v15 : FVec F S8x128 .f32 := Host.absf main_arg9
  let main_cst_4 : FVec F S_ .f32 := constant S_ .f32 0x7F800000#32
  let main_v16 : FVec F S8x128 .f32 := broadcastInDim S8x128 ![] bcast_S_S8x128 main_cst_4
  let main_v17 : IVec S8x128 1 := cmpf .olt main_v15 main_v16
  (main_v2, main_v5, main_v8, main_v11, main_v14, main_v17)
-- ==== Kernel.lean ====
abbrev S4x2048x64 : Shape := ⟨3, ![4, 2048, 64]⟩
abbrev S64x8 : Shape := ⟨2, ![64, 8]⟩
abbrev S8 : Shape := ⟨1, ![8]⟩
abbrev S8x64x128 : Shape := ⟨3, ![8, 64, 128]⟩
abbrev S8x128 : Shape := ⟨2, ![8, 128]⟩
abbrev S256x256x5 : Shape := ⟨3, ![256, 256, 5]⟩
abbrev S256 : Shape := ⟨1, ![256]⟩
abbrev S5x256x256 : Shape := ⟨3, ![5, 256, 256]⟩
abbrev S1x8 : Shape := ⟨2, ![1, 8]⟩
abbrev S1x256 : Shape := ⟨2, ![1, 256]⟩
abbrev S4x2048x256 : Shape := ⟨3, ![4, 2048, 256]⟩
abbrev S2x2048x64 : Shape := ⟨3, ![2, 2048, 64]⟩
abbrev S2x2048x256 : Shape := ⟨3, ![2, 2048, 256]⟩
abbrev S65x8 : Shape := ⟨2, ![65, 8]⟩
abbrev S65x1024 : Shape := ⟨2, ![65, 1024]⟩
abbrev S1x64x128 : Shape := ⟨3, ![1, 64, 128]⟩
abbrev S64x128 : Shape := ⟨2, ![64, 128]⟩
abbrev S1x128 : Shape := ⟨2, ![1, 128]⟩
abbrev S65x128 : Shape := ⟨2, ![65, 128]⟩
abbrev S2x256 : Shape := ⟨2, ![2, 256]⟩
abbrev S514x1 : Shape := ⟨2, ![514, 1]⟩
abbrev S1x514x64 : Shape := ⟨3, ![1, 514, 64]⟩
abbrev S514x64 : Shape := ⟨2, ![514, 64]⟩
abbrev S514x65 : Shape := ⟨2, ![514, 65]⟩
abbrev S514x8 : Shape := ⟨2, ![514, 8]⟩
abbrev S514 : Shape := ⟨1, ![514]⟩
abbrev S514x1024 : Shape := ⟨2, ![514, 1024]⟩
abbrev S514x128 : Shape := ⟨2, ![514, 128]⟩
abbrev S514x256 : Shape := ⟨2, ![514, 256]⟩
abbrev S516x256 : Shape := ⟨2, ![516, 256]⟩
abbrev S512x256 : Shape := ⟨2, ![512, 256]⟩
abbrev S1x256x256 : Shape := ⟨3, ![1, 256, 256]⟩
abbrev S256x256 : Shape := ⟨2, ![256, 256]⟩
abbrev S1x512x256 : Shape := ⟨3, ![1, 512, 256]⟩
abbrev S516x1 : Shape := ⟨2, ![516, 1]⟩
abbrev S1x516x64 : Shape := ⟨3, ![1, 516, 64]⟩
abbrev S516x64 : Shape := ⟨2, ![516, 64]⟩
abbrev S516x65 : Shape := ⟨2, ![516, 65]⟩
abbrev S516x8 : Shape := ⟨2, ![516, 8]⟩
abbrev S516 : Shape := ⟨1, ![516]⟩
abbrev S516x1024 : Shape := ⟨2, ![516, 1024]⟩
abbrev S516x128 : Shape := ⟨2, ![516, 128]⟩

abbrev nBuf : Space → Nat
  | .hbm => 20
  | .vmem => 20
  | .smem => 0
  | _ => 0

abbrev bufTy : (tb : Table) → Fin (tcTables nBuf tb) → BufTy
  | .hbm, ⟨0, _⟩ => ⟨S4x2048x64, .f32⟩
  | .hbm, ⟨1, _⟩ => ⟨S4x2048x64, .f32⟩
  | .hbm, ⟨2, _⟩ => ⟨S64x8, .f32⟩
  | .hbm, ⟨3, _⟩ => ⟨S8, .f32⟩
  | .hbm, ⟨4, _⟩ => ⟨S8x64x128, .f32⟩
  | .hbm, ⟨5, _⟩ => ⟨S8x128, .f32⟩
  | .hbm, ⟨6, _⟩ => ⟨S64x8, .f32⟩
  | .hbm, ⟨7, _⟩ => ⟨S8, .f32⟩
  | .hbm, ⟨8, _⟩ => ⟨S8x64x128, .f32⟩
  | .hbm, ⟨9, _⟩ => ⟨S8x128, .f32⟩
  | .hbm, ⟨10, _⟩ => ⟨S256x256x5, .f32⟩
  | .hbm, ⟨11, _⟩ => ⟨S256, .f32⟩
  | .hbm, ⟨12, _⟩ => ⟨S4x2048x64, .bf16⟩
  | .hbm, ⟨13, _⟩ => ⟨S4x2048x64, .bf16⟩
  | .hbm, ⟨14, _⟩ => ⟨S5x256x256, .f32⟩
  | .hbm, ⟨15, _⟩ => ⟨S5x256x256, .bf16⟩
  | .hbm, ⟨16, _⟩ => ⟨S1x8, .f32⟩
  | .hbm, ⟨17, _⟩ => ⟨S1x8, .f32⟩
  | .hbm, ⟨18, _⟩ => ⟨S1x256, .f32⟩
  | .hbm, ⟨19, _⟩ => ⟨S4x2048x256, .f32⟩
  | .local _ .vmem, ⟨0, _⟩ => ⟨S2x2048x64, .bf16⟩
  | .local _ .vmem, ⟨1, _⟩ => ⟨S2x2048x64, .bf16⟩
  | .local _ .vmem, ⟨2, _⟩ => ⟨S2x2048x64, .bf16⟩
  | .local _ .vmem, ⟨3, _⟩ => ⟨S2x2048x64, .bf16⟩
  | .local _ .vmem, ⟨4, _⟩ => ⟨S64x8, .f32⟩
  | .local _ .vmem, ⟨5, _⟩ => ⟨S1x8, .f32⟩
  | .local _ .vmem, ⟨6, _⟩ => ⟨S8x64x128, .f32⟩
  | .local _ .vmem, ⟨7, _⟩ => ⟨S8x128, .f32⟩
  | .local _ .vmem, ⟨8, _⟩ => ⟨S64x8, .f32⟩
  | .local _ .vmem, ⟨9, _⟩ => ⟨S1x8, .f32⟩
  | .local _ .vmem, ⟨10, _⟩ => ⟨S8x64x128, .f32⟩
  | .local _ .vmem, ⟨11, _⟩ => ⟨S8x128, .f32⟩
  | .local _ .vmem, ⟨12, _⟩ => ⟨S5x256x256, .bf16⟩
  | .local _ .vmem, ⟨13, _⟩ => ⟨S1x256, .f32⟩
  | .local _ .vmem, ⟨14, _⟩ => ⟨S2x2048x256, .f32⟩
  | .local _ .vmem, ⟨15, _⟩ => ⟨S2x2048x256, .f32⟩
  | .local _ .vmem, ⟨16, _⟩ => ⟨S65x8, .bf16⟩
  | .local _ .vmem, ⟨17, _⟩ => ⟨S65x1024, .bf16⟩
  | .local _ .vmem, ⟨18, _⟩ => ⟨S65x8, .bf16⟩
  | .local _ .vmem, ⟨19, _⟩ => ⟨S65x1024, .bf16⟩
  | _, _ => ⟨S4x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x2048x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4x2048x64 : Shape := ⟨3, ![4, 2048, 64]⟩
abbrev S64x8 : Shape := ⟨2, ![64, 8]⟩
abbrev S8 : Shape := ⟨1, ![8]⟩
abbrev S8x64x128 : Shape := ⟨3, ![8, 64, 128]⟩
abbrev S8x128 : Shape := ⟨2, ![8, 128]⟩
abbrev S256x256x5 : Shape := ⟨3, ![256, 256, 5]⟩
abbrev S256 : Shape := ⟨1, ![256]⟩
abbrev S4x2048x8 : Shape := ⟨3, ![4, 2048, 8]⟩
abbrev S1x1x8 : Shape := ⟨3, ![1, 1, 8]⟩
abbrev S_ : Shape := ⟨0, ![]⟩
abbrev S4x2048 : Shape := ⟨2, ![4, 2048]⟩
abbrev S4x2048x1 : Shape := ⟨3, ![4, 2048, 1]⟩
abbrev S4x2048x8x128 : Shape := ⟨4, ![4, 2048, 8, 128]⟩
abbrev S1x1x8x128 : Shape := ⟨4, ![1, 1, 8, 128]⟩
abbrev S4x2048x128 : Shape := ⟨3, ![4, 2048, 128]⟩
abbrev S4x2048x256 : Shape := ⟨3, ![4, 2048, 256]⟩
abbrev S4x2052x256 : Shape := ⟨3, ![4, 2052, 256]⟩
abbrev S256x256x1 : Shape := ⟨3, ![256, 256, 1]⟩
abbrev S256x256 : Shape := ⟨2, ![256, 256]⟩
abbrev S1x1x256 : Shape := ⟨3, ![1, 1, 256]⟩

abbrev nBuf : Space → Nat
  | .hbm => 110
  | .vmem => 0
  | .smem => 0
  | _ => 0

abbrev bufTy : (tb : Table) → Fin (tcTables nBuf tb) → BufTy
  | .hbm, ⟨0, _⟩ => ⟨S4x2048x64, .f32⟩
  | .hbm, ⟨1, _⟩ => ⟨S4x2048x64, .f32⟩
  | .hbm, ⟨2, _⟩ => ⟨S64x8, .f32⟩
  | .hbm, ⟨3, _⟩ => ⟨S8, .f32⟩
  | .hbm, ⟨4, _⟩ => ⟨S8x64x128, .f32⟩
  | .hbm, ⟨5, _⟩ => ⟨S8x128, .f32⟩
  | .hbm, ⟨6, _⟩ => ⟨S64x8, .f32⟩
  | .hbm, ⟨7, _⟩ => ⟨S8, .f32⟩
  | .hbm, ⟨8, _⟩ => ⟨S8x64x128, .f32⟩
  | .hbm, ⟨9, _⟩ => ⟨S8x128, .f32⟩
  | .hbm, ⟨10, _⟩ => ⟨S256x256x5, .f32⟩
  | .hbm, ⟨11, _⟩ => ⟨S256, .f32⟩
  | .hbm, ⟨12, _⟩ => ⟨S4x2048x8, .f32⟩
  | .hbm, ⟨13, _⟩ => ⟨S1x1x8, .f32⟩
  | .hbm, ⟨14, _⟩ => ⟨S4x2048x8, .f32⟩
  | .hbm, ⟨15, _⟩ => ⟨S4x2048x8, .f32⟩
  | .hbm, ⟨16, _⟩ => ⟨S_, .f32⟩
  | .hbm, ⟨17, _⟩ => ⟨S4x2048, .f32⟩
  | .hbm, ⟨18, _⟩ => ⟨S_, .f32⟩
  | .hbm, ⟨19, _⟩ => ⟨S4x2048, .f32⟩
  | .hbm, ⟨20, _⟩ => ⟨S4x2048, .f32⟩
  | .hbm, ⟨21, _⟩ => ⟨S4x2048x1, .f32⟩
  | .hbm, ⟨22, _⟩ => ⟨S4x2048x8, .f32⟩
  | .hbm, ⟨23, _⟩ => ⟨S4x2048x8, .f32⟩
  | .hbm, ⟨24, _⟩ => ⟨S4x2048x8, .f32⟩
  | .hbm, ⟨25, _⟩ => ⟨S_, .f32⟩
  | .hbm, ⟨26, _⟩ => ⟨S4x2048, .f32⟩
  | .hbm, ⟨27, _⟩ => ⟨S4x2048x1, .f32⟩
  | .hbm, ⟨28, _⟩ => ⟨S4x2048x8, .f32⟩
  | .hbm, ⟨29, _⟩ => ⟨S4x2048x8, .f32⟩
  | .hbm, ⟨30, _⟩ => ⟨S4x2048x8x128, .f32⟩
  | .hbm, ⟨31, _⟩ => ⟨S1x1x8x128, .f32⟩
  | .hbm, ⟨32, _⟩ => ⟨S4x2048x8x128, .f32⟩
  | .hbm, ⟨33, _⟩ => ⟨S4x2048x8x128, .f32⟩
  | .hbm, ⟨34, _⟩ => ⟨S4x2048x8x128, .f32⟩
  | .hbm, ⟨35, _⟩ => ⟨S4x2048x8x128, .f32⟩
  | .hbm, ⟨36, _⟩ => ⟨S_, .f32⟩
  | .hbm, ⟨37, _⟩ => ⟨S4x2048x8x128, .f32⟩
  | .hbm, ⟨38, _⟩ => ⟨S4x2048x8x128, .f32⟩
  | .hbm, ⟨39, _⟩ => ⟨S_, .f32⟩
  | .hbm, ⟨40, _⟩ => ⟨S4x2048x8x128, .f32⟩
  | .hbm, ⟨41, _⟩ => ⟨S4x2048x8x128, .f32⟩
  | .hbm, ⟨42, _⟩ => ⟨S4x2048x8x128, .f32⟩
  | .hbm, ⟨43, _⟩ => ⟨S4x2048x128, .f32⟩
  | .hbm, ⟨44, _⟩ => ⟨S4x2048x8, .f32⟩
  | .hbm, ⟨45, _⟩ => ⟨S1x1x8, .f32⟩
  | .hbm, ⟨46, _⟩ => ⟨S4x2048x8, .f32⟩
  | .hbm, ⟨47, _⟩ => ⟨S4x2048x8, .f32⟩
  | .hbm, ⟨48, _⟩ => ⟨S_, .f32⟩
  | .hbm, ⟨49, _⟩ => ⟨S4x2048, .f32⟩
  | .hbm, ⟨50, _⟩ => ⟨S_, .f32⟩
  | .hbm, ⟨51, _⟩ => ⟨S4x2048, .f32⟩
  | .hbm, ⟨52, _⟩ => ⟨S4x2048, .f32⟩
  | .hbm, ⟨53, _⟩ => ⟨S4x2048x1, .f32⟩
  | .hbm, ⟨54, _⟩ => ⟨S4x2048x8, .f32⟩
  | .hbm, ⟨55, _⟩ => ⟨S4x2048x8, .f32⟩
  | .hbm, ⟨56, _⟩ => ⟨S4x2048x8, .f32⟩
  | .hbm, ⟨57, _⟩ => ⟨S_, .f32⟩
  | .hbm, ⟨58, _⟩ => ⟨S4x2048, .f32⟩
  | .hbm, ⟨59, _⟩ => ⟨S4x2048x1, .f32⟩
  | .hbm, ⟨60, _⟩ => ⟨S4x2048x8, .f32⟩
  | .hbm, ⟨61, _⟩ => ⟨S4x2048x8, .f32⟩
  | .hbm, ⟨62, _⟩ => ⟨S4x2048x8x128, .f32⟩
  | .hbm, ⟨63, _⟩ => ⟨S1x1x8x128, .f32⟩
  | .hbm, ⟨64, _⟩ => ⟨S4x2048x8x128, .f32⟩
  | .hbm, ⟨65, _⟩ => ⟨S4x2048x8x128, .f32⟩
  | .hbm, ⟨66, _⟩ => ⟨S4x2048x8x128, .f32⟩
  | .hbm, ⟨67, _⟩ => ⟨S4x2048x8x128, .f32⟩
  | .hbm, ⟨68, _⟩ => ⟨S_, .f32⟩
  | .hbm, ⟨69, _⟩ => ⟨S4x2048x8x128, .f32⟩
  | .hbm, ⟨70, _⟩ => ⟨S4x2048x8x128, .f32⟩
  | .hbm, ⟨71, _⟩ => ⟨S_, .f32⟩
  | .hbm, ⟨72, _⟩ => ⟨S4x2048x8x128, .f32⟩
  | .hbm, ⟨73, _⟩ => ⟨S4x2048x8x128, .f32⟩
  | .hbm, ⟨74, _⟩ => ⟨S4x2048x8x128, .f32⟩
  | .hbm, ⟨75, _⟩ => ⟨S4x2048x128, .f32⟩
  | .hbm, ⟨76, _⟩ => ⟨S4x2048x256, .f32⟩
  | .hbm, ⟨77, _⟩ => ⟨S_, .i32⟩
  | .hbm, ⟨78, _⟩ => ⟨S_, .f32⟩
  | .hbm, ⟨79, _⟩ => ⟨S4x2052x256, .f32⟩
  | .hbm, ⟨80, _⟩ => ⟨S4x2048x256, .f32⟩
  | .hbm, ⟨81, _⟩ => ⟨S256x256x1, .f32⟩
  | .hbm, ⟨82, _⟩ => ⟨S256x256, .f32⟩
  | .hbm, ⟨83, _⟩ => ⟨S4x2048x256, .f32⟩
  | .hbm, ⟨84, _⟩ => ⟨S4x2048x256, .f32⟩
  | .hbm, ⟨85, _⟩ => ⟨S256x256x1, .f32⟩
  | .hbm, ⟨86, _⟩ => ⟨S256x256, .f32⟩
  | .hbm, ⟨87, _⟩ => ⟨S4x2048x256, .f32⟩
  | .hbm, ⟨88, _⟩ => ⟨S4x2048x256, .f32⟩
  | .hbm, ⟨89, _⟩ => ⟨S4x2048x256, .f32⟩
  | .hbm, ⟨90, _⟩ => ⟨S256x256x1, .f32⟩
  | .hbm, ⟨91, _⟩ => ⟨S256x256, .f32⟩
  | .hbm, ⟨92, _⟩ => ⟨S4x2048x256, .f32⟩
  | .hbm, ⟨93, _⟩ => ⟨S4x2048x256, .f32⟩
  | .hbm, ⟨94, _⟩ => ⟨S4x2048x256, .f32⟩
  | .hbm, ⟨95, _⟩ => ⟨S256x256x1, .f32⟩
  | .hbm, ⟨96, _⟩ => ⟨S256x256, .f32⟩
  | .hbm, ⟨97, _⟩ => ⟨S4x2048x256, .f32⟩
  | .hbm, ⟨98, _⟩ => ⟨S4x2048x256, .f32⟩
  | .hbm, ⟨99, _⟩ => ⟨S4x2048x256, .f32⟩
  | .hbm, ⟨100, _⟩ => ⟨S256x256x1, .f32⟩
  | .hbm, ⟨101, _⟩ => ⟨S256x256, .f32⟩
  | .hbm, ⟨102, _⟩ => ⟨S4x2048x256, .f32⟩
  | .hbm, ⟨103, _⟩ => ⟨S4x2048x256, .f32⟩
  | .hbm, ⟨104, _⟩ => ⟨S1x1x256, .f32⟩
  | .hbm, ⟨105, _⟩ => ⟨S4x2048x256, .f32⟩
  | .hbm, ⟨106, _⟩ => ⟨S4x2048x256, .f32⟩
  | .hbm, ⟨107, _⟩ => ⟨S_, .f32⟩
  | .hbm, ⟨108, _⟩ => ⟨S4x2048x256, .f32⟩
  | .hbm, ⟨109, _⟩ => ⟨S4x2048x256, .f32⟩
  | _, _ => ⟨S4x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c : Ref sig .tc := ⟨.hbm, 77, rfl⟩
abbrev main_call2_v0 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call3_cst : Ref sig .tc := ⟨.hbm, 107, rfl⟩
abbrev main_call3_v0 : Ref sig .tc := ⟨.hbm, 108, rfl⟩
abbrev main_v71 : Ref sig .tc := ⟨.hbm, 109, rfl⟩

abbrev nD : Nat := 1
abbrev τ : Topo := Topo.v7x

variable {F : FTy → Type} [FloatOps F]
-- ==== Proof.Spec.lean ====
module

public import Mathlib.Data.EReal.Inv
public import Mathlib.Analysis.Complex.Trigonometric
public import Idealize.ShloMosaic.PureOps.Ideal
public import Idealize.ShloMosaic.PureOps.Ideal.Laws

/-!
# The mathematics of the layer, over the extended reals

One position of one branch is a mixture of eight experts: a softmax of eight gate logits weighs the SiLU of
eight affine images of the position's 64 numbers.  The two branches stand side by side as 256 channels, and a
convolution of five taps along the positions, a bias and a rectifier finish the layer.  Nothing here names a
program.
-/

@[expose] public section

noncomputable section

namespace Cert.Spec

open Idealize.ShloMosaic

/-- The gate's logit for expert `e` at one position. -/
def logit (x : Fin 64 → EReal) (gw : Fin 64 → Fin 8 → EReal) (gb : Fin 8 → EReal) (e : Fin 8) : EReal :=
  (∑ i, x i * gw i e) + gb e

/-- The largest of eight logits. -/
def top (l : Fin 8 → EReal) : EReal := Finset.univ.fold max ⊥ l

/-- The softmax weight of expert `e`. -/
def gate (l : Fin 8 → EReal) (e : Fin 8) : EReal :=
  Ideal.div (Ideal.exp (l e - top l)) (∑ k, Ideal.exp (l k - top l))

/-- Expert `e`'s affine image of one position, at channel `o`. -/
def hidden (x : Fin 64 → EReal) (ew : Fin 8 → Fin 64 → Fin 128 → EReal) (eb : Fin 8 → Fin 128 → EReal)
    (e : Fin 8) (o : Fin 128) : EReal :=
  (∑ i, x i * ew e i o) + eb e o

/-- SiLU: a number times its logistic. -/
def silu (h : EReal) : EReal := h * Ideal.div 1 (1 + Ideal.exp (-h))

/-- The mixture of the eight experts at one position, at channel `o`. -/
def moe (x : Fin 64 → EReal) (gw : Fin 64 → Fin 8 → EReal) (gb : Fin 8 → EReal)
    (ew : Fin 8 → Fin 64 → Fin 128 → EReal) (eb : Fin 8 → Fin 128 → EReal) (o : Fin 128) : EReal :=
  ∑ e, gate (logit x gw gb) e * silu (hidden x ew eb e o)

/-- Two rows of 128 channels side by side. -/
def beside (f g : Fin 128 → EReal) (i : Fin 256) : EReal :=
  if h : i.val < 128 then f ⟨i.val, h⟩ else g ⟨i.val - 128, by omega⟩

/-- 2048 rows with two rows of zeros before them and zeros after them. -/
def padded (C : Fin 2048 → Fin 256 → EReal) (p : ℕ) (i : Fin 256) : EReal :=
  if h : 2 ≤ p ∧ p < 2050 then C ⟨p - 2, by omega⟩ i else 0

/-- One tap of the convolution: a row of channels against one matrix. -/
def tap (r : Fin 256 → EReal) (w : Fin 256 → EReal) : EReal := ∑ i, r i * w i

/-- The convolution's five taps at row `l` of a padded array, then the bias, then the rectifier. -/
def conv (P : ℕ → Fin 256 → EReal) (w : Fin 5 → Fin 256 → EReal) (b : EReal) (l : ℕ) : EReal :=
  max (tap (P l) (w 0) + tap (P (l + 1)) (w 1) + tap (P (l + 2)) (w 2) + tap (P (l + 3)) (w 3)
    + tap (P (l + 4)) (w 4) + b) 0

/-- One branch's weights: the gate's matrix and bias, the experts' matrices and biases. -/
structure Weights where
  gw : Fin 64 → Fin 8 → EReal
  gb : Fin 8 → EReal
  ew : Fin 8 → Fin 64 → Fin 128 → EReal
  eb : Fin 8 → Fin 128 → EReal

/-- The 256 channels of one sequence: the mixtures of its two branches side by side at each position. -/
def channels (A D : Fin 2048 → Fin 64 → EReal) (p q : Weights) (l : Fin 2048) : Fin 256 → EReal :=
  beside (moe (A l) p.gw p.gb p.ew p.eb) (moe (D l) q.gw q.gb q.ew q.eb)

/-- The layer on one sequence, at row `l` and output channel `o`; `w k i o` is tap `k`'s weight. -/
def layer (A D : Fin 2048 → Fin 64 → EReal) (p q : Weights) (w : Fin 5 → Fin 256 → Fin 256 → EReal) (b : Fin 256 → EReal)
    (l : ℕ) (o : Fin 256) : EReal :=
  conv (padded (channels A D p q)) (fun k i => w k i o) (b o) l

/-- An extended real that is a real number. -/
def IsReal (x : EReal) : Prop := x ≠ ⊥ ∧ x ≠ ⊤

/-- The halved form of SiLU on a real number: `u + u·tanh u` with `u = r/2` is `r` times the logistic of `r`. -/
theorem half_silu_real (r : ℝ) :
    r / 2 + r / 2 * Real.tanh (r / 2) = r * (1 / (1 + Real.exp (-r))) := by
  have hs : 0 < Real.exp (r / 2) := Real.exp_pos _
  have e1 : Real.exp (-(r / 2)) = (Real.exp (r / 2))⁻¹ := Real.exp_neg _
  have e2 : Real.exp (-r) = (Real.exp (r / 2))⁻¹ * (Real.exp (r / 2))⁻¹ := by
    rw [← e1, ← Real.exp_add]; congr 1; ring
  rw [Real.tanh_eq_sinh_div_cosh, Real.sinh_eq, Real.cosh_eq, e1, e2]
  have : Real.exp (r / 2) * Real.exp (r / 2) + 1 ≠ 0 := by positivity
  field_simp
  ring

/-- SiLU at a real number. -/
theorem silu_coe (r : ℝ) : silu (r : EReal) = ((r * (1 / (1 + Real.exp (-r))) : ℝ) : EReal) := by
  have hp : (0 : ℝ) < 1 + Real.exp (-r) := by positivity
  unfold silu
  rw [← EReal.coe_neg, Ideal.exp_coe, ← EReal.coe_one, ← EReal.coe_add]
  unfold Ideal.div
  rw [if_neg (by exact_mod_cast hp.ne'), ← EReal.coe_inv, ← EReal.coe_mul, ← EReal.coe_mul, one_div, one_mul]

/-- What the kernel computes from the halved weights and bias is the SiLU of the expert's affine image, when the
    position, the weights and the bias are real numbers. -/
theorem half_silu {x w : Fin 64 → EReal} {b c : EReal} (hc : c = ((1 / 2 : ℝ) : EReal))
    (hx : ∀ i, IsReal (x i)) (hw : ∀ i, IsReal (w i)) (hb : IsReal b) :
    ((∑ i, x i * (c * w i)) + 1 * (c * b)) + ((∑ i, x i * (c * w i)) + 1 * (c * b)) * Ideal.tanh ((∑ i, x i * (c * w i)) + 1 * (c * b))
      = silu ((∑ i, x i * w i) + b) := by
  obtain ⟨x', rfl⟩ : ∃ x' : Fin 64 → ℝ, x = fun i => (x' i : EReal) :=
    ⟨fun i => (x i).toReal, funext fun i => (EReal.coe_toReal (hx i).2 (hx i).1).symm⟩
  obtain ⟨w', rfl⟩ : ∃ w' : Fin 64 → ℝ, w = fun i => (w' i : EReal) :=
    ⟨fun i => (w i).toReal, funext fun i => (EReal.coe_toReal (hw i).2 (hw i).1).symm⟩
  obtain ⟨b', rfl⟩ : ∃ b' : ℝ, b = (b' : EReal) := ⟨b.toReal, (EReal.coe_toReal hb.2 hb.1).symm⟩
  subst hc
  have hh : (∑ i, (x' i : EReal) * (w' i : EReal)) + (b' : EReal) = (((∑ i, x' i * w' i) + b' : ℝ) : EReal) := by
    push_cast; rfl
  have hu : (∑ i, (x' i : EReal) * (((1 / 2 : ℝ) : EReal) * (w' i : EReal))) + 1 * (((1 / 2 : ℝ) : EReal) * (b' : EReal))
      = (((∑ i, x' i * w' i) + b') / 2 : ℝ) := by
    rw [show ((∑ i, x' i * w' i) + b') / 2 = (∑ i, x' i * ((1 / 2) * w' i)) + 1 * ((1 / 2) * b') by
      rw [add_div, Finset.sum_div]; congr 1
      · exact Finset.sum_congr rfl fun i _ => by ring
      · ring]
    push_cast; rfl
  beta_reduce
  rw [hh, hu, silu_coe, Ideal.tanh_coe, ← EReal.coe_mul, ← EReal.coe_add, half_silu_real]

end Cert.Spec
-- ==== Proof.Rows.lean ====
module

public import proofs.«01_k».proof.Proof.Spec
public import Idealize.ShloMosaic.Lib.MatmulPlain
public import Idealize.ShloMosaic.Lib.IdealHost
public import Idealize.ShloMosaic.Lib.ValueIdx
public import Idealize.ShloMosaic.Lib.ValueLayout
public import Idealize.ShloMosaic.Lib.ValueLayoutCasts
public import Idealize.ShloMosaic.Lib.Pointwise.Reduce
public import Idealize.ShloMosaic.Lib.Pipeline.Value

/-!
# The mixture of experts on a block of `n` rows, as vector operations

The operations one branch of a chunk runs, over any number `n` of rows, and what each reads at an index.  The
weights come as two matrices of 65 rows whose last row is the bias; the rows of the input carry a one in column
64, so one product gives weights and bias together.
-/

@[expose] public section

noncomputable section

namespace Cert.Rows

open Idealize.ShloMosaic hiding ix1 ix2 ix3
open Idealize.ShloMosaic.ValueIdx Cert.Spec

/-- The shape of a matrix. -/
abbrev M (a b : ℕ) : Shape := ⟨2, ![a, b]⟩

/-! ### Reading two matrices put together -/

/-- Two matrices side by side, read in the left one. -/
theorem cat1_left {α : Type} {r a b c : ℕ} (x : (M r a).Idx → α) (y : (M r b).Idx → α)
    (h : Shape.Concatenates [M r a, M r b] (M r c) 1) (i : Fin r) (j : Fin c) (k : Fin a) (hk : k.val = j.val) :
    concatenate (M r c) 1 [⟨M r a, x⟩, ⟨M r b, y⟩] h (ix2 i j) = x (ix2 i k) :=
  concatenate_pair_apply_left 1 x y h _ rfl _ fun t => by
    match t with
    | ⟨0, _⟩ => rfl
    | ⟨1, _⟩ => exact hk

/-- Two matrices side by side, read in the right one. -/
theorem cat1_right {α : Type} {r a b c : ℕ} (x : (M r a).Idx → α) (y : (M r b).Idx → α)
    (h : Shape.Concatenates [M r a, M r b] (M r c) 1) (i : Fin r) (j : Fin c) (k : Fin b) (hk : k.val + a = j.val) :
    concatenate (M r c) 1 [⟨M r a, x⟩, ⟨M r b, y⟩] h (ix2 i j) = y (ix2 i k) :=
  concatenate_pair_apply_right 1 x y h _ rfl rfl _ (fun t ht => by
    match t with
    | ⟨0, _⟩ => rfl
    | ⟨1, _⟩ => exact absurd rfl ht) hk

/-- Two matrices one above the other, read in the upper one. -/
theorem cat0_upper {α : Type} {r a b c : ℕ} (x : (M a r).Idx → α) (y : (M b r).Idx → α)
    (h : Shape.Concatenates [M a r, M b r] (M c r) 0) (i : Fin c) (j : Fin r) (k : Fin a) (hk : k.val = i.val) :
    concatenate (M c r) 0 [⟨M a r, x⟩, ⟨M b r, y⟩] h (ix2 i j) = x (ix2 k j) :=
  concatenate_pair_apply_left 0 x y h _ rfl _ fun t => by
    match t with
    | ⟨0, _⟩ => exact hk
    | ⟨1, _⟩ => rfl

/-- Two matrices one above the other, read in the lower one. -/
theorem cat0_lower {α : Type} {r a b c : ℕ} (x : (M a r).Idx → α) (y : (M b r).Idx → α)
    (h : Shape.Concatenates [M a r, M b r] (M c r) 0) (i : Fin c) (j : Fin r) (k : Fin b) (hk : k.val + a = i.val) :
    concatenate (M c r) 0 [⟨M a r, x⟩, ⟨M b r, y⟩] h (ix2 i j) = y (ix2 k j) :=
  concatenate_pair_apply_right 0 x y h _ rfl rfl _ (fun t ht => by
    match t with
    | ⟨0, _⟩ => exact absurd rfl ht
    | ⟨1, _⟩ => rfl) hk

/-- A column broadcast along the rows' entries reads the column. -/
theorem column_apply {α : Type} {a b : ℕ} (v : (M a 1).Idx → α) (h : (M a 1).Broadcasts (M a b)) (p : Fin a) (c : Fin b) :
    broadcastTo (M a b) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The operations -/

/-- The shape relations the operations on `n` rows ask for. -/
structure Facts (n : ℕ) : Prop where
  cast : (⟨3, ![1, n, 64]⟩ : Shape).ShapeCasts (M n 64)
  ones : Shape.Concatenates [M n 64, M n 1] (M n 65) 1
  red : (M n 8).Reduces [1] ⟨1, ![n]⟩
  col : (⟨1, ![n]⟩ : Shape).ShapeCasts (M n 1)
  wide : (M n 1).Broadcasts (M n 8)
  wide' : (M n 1).Broadcasts (M n 128)
  sg : ∀ e : Fin 8, (M n 8).Slices ![0, e.val] (M n 1)
  sq : ∀ e : Fin 8, (M n 1024).Slices ![0, 128 * e.val] (M n 128)
  both : Shape.Concatenates [M n 128, M n 128] (M n 256) 1

variable {n : ℕ}

/-- The input's rows with a one after their 64 numbers. -/
def withOne (H : Facts n) (x : FVec Ideal ⟨3, ![1, n, 64]⟩ .bf16) : FVec Ideal (M n 65) .bf16 :=
  concatenate (M n 65) 1 [⟨M n 64, shapeCast (M n 64) x H.cast⟩,
    ⟨M n 1, broadcast (M n 1) (Scalar.ofBits (F := Ideal) .bf16 0x3F80#16)⟩] H.ones

/-- The exponentials of the logits less their row's largest. -/
def expo (H : Facts n) (l : FVec Ideal (M n 8) .f32) : FVec Ideal (M n 8) .f32 :=
  exp (subf l (broadcastTo (M n 8) (shapeCast (M n 1)
    (multiReduction .maximumf [1] ⟨1, ![n]⟩ l 0xFF800000#32 H.red (.inl rfl) rfl) H.col) H.wide))

/-- The softmax weights of the logits' rows. -/
def gates (H : Facts n) (l : FVec Ideal (M n 8) .f32) : FVec Ideal (M n 8) .bf16 :=
  truncf .bf16 (divf (expo H l) (broadcastTo (M n 8) (shapeCast (M n 1)
    (multiReduction .add [1] ⟨1, ![n]⟩ (expo H l) 0x00000000#32 H.red (.inl rfl) rfl) H.col) H.wide)) (by decide)

/-- `u + u·tanh u`. -/
def bent (q : FVec Ideal (M n 1024) .f32) : FVec Ideal (M n 1024) .bf16 :=
  addf (truncf .bf16 q (by decide)) (mulf (truncf .bf16 q (by decide)) (tanh (truncf .bf16 q (by decide))))

/-- Expert `e`'s share: its weight times its 128 channels. -/
def share (H : Facts n) (g : FVec Ideal (M n 8) .bf16) (q : FVec Ideal (M n 1024) .bf16) (e : Fin 8) : FVec Ideal (M n 128) .bf16 :=
  mulf (broadcastTo (M n 128) (extractStridedSlice (M n 1) ![0, e.val] g (H.sg e)) H.wide')
    (extractStridedSlice (M n 128) ![0, 128 * e.val] q (H.sq e))

/-- The eight shares added, first to last. -/
def mix (H : Facts n) (g : FVec Ideal (M n 8) .bf16) (q : FVec Ideal (M n 1024) .bf16) : FVec Ideal (M n 128) .bf16 :=
  addf (addf (addf (addf (addf (addf (addf (share H g q 0) (share H g q 1)) (share H g q 2)) (share H g q 3))
    (share H g q 4)) (share H g q 5)) (share H g q 6)) (share H g q 7)

/-- One branch on a block of rows. -/
def branch (H : Facts n) (x : FVec Ideal ⟨3, ![1, n, 64]⟩ .bf16) (gs : FVec Ideal (M 65 8) .bf16)
    (es : FVec Ideal (M 65 1024) .bf16) : FVec Ideal (M n 128) .bf16 :=
  mix H (gates H (matmul (DotDims.plain n 65 8) none (withOne H x) gs (constant (M n 8) .f32 0x00000000#32)))
    (bent (matmul (DotDims.plain n 65 1024) none (withOne H x) es (constant (M n 1024) .f32 0x00000000#32)))

/-- The two branches side by side. -/
def rows (H : Facts n) (a d : FVec Ideal ⟨3, ![1, n, 64]⟩ .bf16) (gt : FVec Ideal (M 65 8) .bf16)
    (et : FVec Ideal (M 65 1024) .bf16) (gd : FVec Ideal (M 65 8) .bf16) (ed : FVec Ideal (M 65 1024) .bf16) :
    FVec Ideal (M n 256) .bf16 :=
  concatenate (M n 256) 1 [⟨M n 128, branch H a gt et⟩, ⟨M n 128, branch H d gd ed⟩] H.both

/-! ### What they read at an index -/

/-- The pattern of minus infinity. -/
theorem neg_inf : Ideal.ofBits .f32 0xFF800000#32 = ⊥ := by simp [Ideal.ofBits, Ideal.ieee]

/-- A matrix whose columns reduce away under the maximum, read at a row. -/
theorem max_apply (h : (M n 8).Reduces [1] ⟨1, ![n]⟩) (l : FVec Ideal (M n 8) .f32) (r : Fin n) :
    multiReduction .maximumf [1] ⟨1, ![n]⟩ l 0xFF800000#32 h (.inl rfl) rfl (ix1 r) = top fun k => l (ix2 r k) := by
  refine (multiReduction_maximumf_eq_fold l _ h (.inl rfl) rfl (ix1 r)).trans ?_
  refine (Shape.Reduces.fold_fiber_r2_a1 h (ix1 r) _ _ l).trans ?_
  show Finset.univ.fold max (Ideal.ofBits .f32 0xFF800000#32) _ = _
  rw [neg_inf]
  rfl

/-- A matrix whose columns reduce away under the sum, read at a row. -/
theorem sum_apply (h : (M n 8).Reduces [1] ⟨1, ![n]⟩) (l : FVec Ideal (M n 8) .f32) (r : Fin n) :
    multiReduction .add [1] ⟨1, ![n]⟩ l 0x00000000#32 h (.inl rfl) rfl (ix1 r) = ∑ k, l (ix2 r k) :=
  Ideal.reduceAdd_r2_a1 h l (ix1 r)

/-- The shifted exponentials of the logits, at a row and an expert. -/
theorem expo_apply (H : Facts n) (l : FVec Ideal (M n 8) .f32) (r : Fin n) (e : Fin 8) :
    expo H l (ix2 r e) = Ideal.exp (l (ix2 r e) - top fun k => l (ix2 r k)) := by
  show Ideal.exp (l (ix2 r e) - _) = _
  rw [column_apply, shapeCast_a_a1_apply, max_apply]

/-- The softmax weights, at a row and an expert. -/
theorem gates_apply (H : Facts n) (l : FVec Ideal (M n 8) .f32) (r : Fin n) (e : Fin 8) :
    gates H l (ix2 r e) = gate (fun k => l (ix2 r k)) e := by
  show Ideal.div (expo H l (ix2 r e)) _ = _
  rw [column_apply, shapeCast_a_a1_apply, sum_apply]
  simp only [expo_apply]
  rfl

/-- One expert's share of the mixture, at a row and a channel. -/
theorem share_apply (H : Facts n) (g : FVec Ideal (M n 8) .bf16) (q : FVec Ideal (M n 1024) .bf16) (e : Fin 8) (r : Fin n) (o : Fin 128) :
    share H g q e (ix2 r o) = g (ix2 r e) * q (ix2 r ⟨128 * e.val + o.val, by omega⟩) := by
  show _ * _ = _
  rw [column_apply, slice2_axis1_apply _ _ _ _ _ e rfl, slice2_axis1_apply _ _ _ _ _ ⟨128 * e.val + o.val, by omega⟩ rfl]

/-- The mixture, at a row and a channel. -/
theorem mix_apply (H : Facts n) (g : FVec Ideal (M n 8) .bf16) (q : FVec Ideal (M n 1024) .bf16) (r : Fin n) (o : Fin 128) :
    mix H g q (ix2 r o) = ∑ e : Fin 8, g (ix2 r e) * q (ix2 r ⟨128 * e.val + o.val, by omega⟩) := by
  rw [Fin.sum_univ_eight]
  show share H g q 0 (ix2 r o) + share H g q 1 (ix2 r o) + share H g q 2 (ix2 r o) + share H g q 3 (ix2 r o)
    + share H g q 4 (ix2 r o) + share H g q 5 (ix2 r o) + share H g q 6 (ix2 r o) + share H g q 7 (ix2 r o) = _
  simp only [share_apply]

/-- The input's 64 numbers of a row that carries the one. -/
theorem withOne_left (H : Facts n) (x : FVec Ideal ⟨3, ![1, n, 64]⟩ .bf16) (r : Fin n) (i : Fin 64) :
    withOne H x (ix2 r i.castSucc) = x (ix3 0 r i) := by
  unfold withOne
  exact (cat1_left _ _ _ r i.castSucc i rfl).trans (shapeCast_1ab_ab_apply ..)

/-- The one a row carries. -/
theorem withOne_last (H : Facts n) (x : FVec Ideal ⟨3, ![1, n, 64]⟩ .bf16) (r : Fin n) :
    withOne H x (ix2 r (Fin.last 64)) = 1 := by
  unfold withOne
  refine (cat1_right _ _ _ _ _ (0 : Fin 1) rfl).trans ?_
  exact Ideal.ofBits_one_bf16

/-- A product with the rows that carry a one: the 64 weights' sum, then the bias. -/
theorem product_apply {N : ℕ} (H : Facts n) (x : FVec Ideal ⟨3, ![1, n, 64]⟩ .bf16) (w : FVec Ideal (M 65 N) .bf16) (r : Fin n) (c : Fin N) :
    matmul (DotDims.plain n 65 N) none (withOne H x) w (constant (M n N) .f32 0x00000000#32) (ix2 r c)
      = (∑ i : Fin 64, x (ix3 0 r i) * w (ix2 i.castSucc c)) + 1 * w (ix2 (Fin.last 64) c) := by
  refine (Ideal.matmul_plain_apply _ _ _ _ r c).trans ?_
  rw [Fin.sum_univ_castSucc]
  simp only [withOne_left, withOne_last]
  show Ideal.ofBits .f32 0x00000000#32 + _ = _
  rw [Ideal.ofBits_zero_f32, zero_add]

/-- One branch at a row and a channel, when its two matrices hold the gate's weights and bias and the experts'
    halved weights and biases, and the experts' side is real. -/
theorem branch_apply (H : Facts n) (x : FVec Ideal ⟨3, ![1, n, 64]⟩ .bf16) (gs : FVec Ideal (M 65 8) .bf16)
    (es : FVec Ideal (M 65 1024) .bf16) {gw : Fin 64 → Fin 8 → EReal} {gb : Fin 8 → EReal}
    {ew : Fin 8 → Fin 64 → Fin 128 → EReal} {eb : Fin 8 → Fin 128 → EReal} {c : EReal} (hc : c = ((1 / 2 : ℝ) : EReal))
    (hgw : ∀ i e, gs (ix2 i.castSucc e) = gw i e) (hgb : ∀ e, gs (ix2 (Fin.last 64) e) = gb e)
    (hew : ∀ (e : Fin 8) i (o : Fin 128), es (ix2 i.castSucc ⟨128 * e.val + o.val, by omega⟩) = c * ew e i o)
    (heb : ∀ (e : Fin 8) (o : Fin 128), es (ix2 (Fin.last 64) ⟨128 * e.val + o.val, by omega⟩) = c * eb e o)
    (fw : ∀ e i o, IsReal (ew e i o)) (fb : ∀ e o, IsReal (eb e o)) (r : Fin n) (fx : ∀ i, IsReal (x (ix3 0 r i))) (o : Fin 128) :
    branch H x gs es (ix2 r o) = moe (fun i => x (ix3 0 r i)) gw gb ew eb o := by
  unfold branch moe
  rw [mix_apply]
  refine Finset.sum_congr rfl fun e _ => ?_
  rw [gates_apply]
  congr 1
  · congr 1
    funext k
    rw [product_apply, hgb, one_mul]
    simp only [hgw]
    rfl
  · show (matmul _ none _ es _ _) + (matmul _ none _ es _ _) * Ideal.tanh (matmul _ none _ es _ _) = _
    rw [product_apply]
    simp only [hew, heb]
    exact half_silu hc fx (fun i => fw e i o) (fb e o)

/-- The two branches side by side, at a row. -/
theorem rows_apply (H : Facts n) (a d : FVec Ideal ⟨3, ![1, n, 64]⟩ .bf16) (gt : FVec Ideal (M 65 8) .bf16)
    (et : FVec Ideal (M 65 1024) .bf16) (gd : FVec Ideal (M 65 8) .bf16) (ed : FVec Ideal (M 65 1024) .bf16) (r : Fin n) (i : Fin 256) :
    rows H a d gt et gd ed (ix2 r i) = beside (fun o => branch H a gt et (ix2 r o)) (fun o => branch H d gd ed (ix2 r o)) i := by
  unfold rows beside
  split
  · next h => exact cat1_left _ _ _ _ _ ⟨i.val, h⟩ rfl
  · next h => exact cat1_right _ _ _ _ _ ⟨i.val - 128, by omega⟩ (by show i.val - 128 + 128 = i.val; omega)

end Cert.Rows
-- ==== Proof.Taps.lean ====
module

public import proofs.«01_k».proof.Proof.Rows

/-!
# The convolution on a block of 516 rows, as vector operations

A chunk of 512 output rows reads 516 rows of channels, two above it and two below; a chunk at an end of the array
has two rows of zeros in their place.
-/

@[expose] public section

noncomputable section

namespace Cert.Taps

open Idealize.ShloMosaic hiding ix1 ix2 ix3
open Idealize.ShloMosaic.ValueIdx Cert.Spec Cert.Rows

/-- The shape relations the convolution asks for. -/
structure Facts : Prop where
  cast : (⟨3, ![1, 256, 256]⟩ : Shape).ShapeCasts (M 256 256)
  sl : ∀ k : Fin 5, (M 516 256).Slices ![k.val, 0] (M 512 256)
  bias : (M 1 256).Broadcasts (M 512 256)
  self : (M 1 256).ShapeCasts (M 1 256)
  out : (M 512 256).ShapeCasts ⟨3, ![1, 512, 256]⟩
  above : Shape.Concatenates [M 2 256, M 514 256] (M 516 256) 0
  below : Shape.Concatenates [M 514 256, M 2 256] (M 516 256) 0

/-- Two rows of zeros. -/
def zeros : FVec Ideal (M 2 256) .bf16 := broadcast (M 2 256) (Scalar.ofBits (F := Ideal) .bf16 0x0000#16)

/-- Rows with two rows of zeros above them. -/
def under (H : Facts) (x : FVec Ideal (M 514 256) .bf16) : FVec Ideal (M 516 256) .bf16 :=
  concatenate (M 516 256) 0 [⟨M 2 256, zeros⟩, ⟨M 514 256, x⟩] H.above

/-- Rows with two rows of zeros below them. -/
def over (H : Facts) (x : FVec Ideal (M 514 256) .bf16) : FVec Ideal (M 516 256) .bf16 :=
  concatenate (M 516 256) 0 [⟨M 514 256, x⟩, ⟨M 2 256, zeros⟩] H.below

/-- One tap: the rows from `k` on against one matrix. -/
def term (H : Facts) (x : FVec Ideal (M 516 256) .bf16) (k : Fin 5) (w : FVec Ideal ⟨3, ![1, 256, 256]⟩ .bf16) : FVec Ideal (M 512 256) .f32 :=
  matmul (DotDims.plain 512 256 256) none (extractStridedSlice (M 512 256) ![k.val, 0] x (H.sl k))
    (shapeCast (M 256 256) w H.cast) (constant (M 512 256) .f32 0x00000000#32)

/-- The five taps added first to last, the bias, the rectifier. -/
def block (H : Facts) (x : FVec Ideal (M 516 256) .bf16) (w0 w1 w2 w3 w4 : FVec Ideal ⟨3, ![1, 256, 256]⟩ .bf16)
    (b : FVec Ideal (M 1 256) .f32) : FVec Ideal ⟨3, ![1, 512, 256]⟩ .f32 :=
  shapeCast ⟨3, ![1, 512, 256]⟩ (maximumf (addf (addf (addf (addf (addf (term H x 0 w0) (term H x 1 w1)) (term H x 2 w2))
    (term H x 3 w3)) (term H x 4 w4)) (broadcastTo (M 512 256) (shapeCast (M 1 256) b H.self) H.bias))
    (broadcast (M 512 256) (Scalar.ofBits (F := Ideal) .f32 0x00000000#32))) H.out

/-- One tap, at a row and an output channel: the row `k` further down against the tap's matrix. -/
theorem term_apply (H : Facts) (x : FVec Ideal (M 516 256) .bf16) (k : Fin 5) (w : FVec Ideal ⟨3, ![1, 256, 256]⟩ .bf16)
    (r : Fin 512) (o : Fin 256) :
    term H x k w (ix2 r o) = tap (fun i => x (ix2 ⟨k.val + r.val, by omega⟩ i)) (fun i => w (ix3 0 i o)) := by
  refine (Ideal.matmul_plain_apply _ _ _ _ r o).trans ?_
  show Ideal.ofBits .f32 0x00000000#32 + _ = _
  rw [Ideal.ofBits_zero_f32, zero_add]
  refine Finset.sum_congr rfl fun i _ => ?_
  rw [slice2_axis0_apply _ _ _ _ _ ⟨k.val + r.val, by omega⟩ rfl, shapeCast_1ab_ab_apply]

/-- The block at a row and a channel, when its 516 rows are those of `P` from `base` on. -/
theorem block_apply (H : Facts) (x : FVec Ideal (M 516 256) .bf16) (w0 w1 w2 w3 w4 : FVec Ideal ⟨3, ![1, 256, 256]⟩ .bf16)
    (b : FVec Ideal (M 1 256) .f32) (P : ℕ → Fin 256 → EReal) (base : ℕ) (hx : ∀ (r : Fin 516) i, x (ix2 r i) = P (base + r.val) i)
    (W : Fin 5 → Fin 256 → Fin 256 → EReal) (h0 : ∀ i o, w0 (ix3 0 i o) = W 0 i o) (h1 : ∀ i o, w1 (ix3 0 i o) = W 1 i o)
    (h2 : ∀ i o, w2 (ix3 0 i o) = W 2 i o) (h3 : ∀ i o, w3 (ix3 0 i o) = W 3 i o) (h4 : ∀ i o, w4 (ix3 0 i o) = W 4 i o)
    (r : Fin 512) (o : Fin 256) :
    block H x w0 w1 w2 w3 w4 b (ix3 0 r o) = conv P (fun k i => W k i o) (b (ix2 0 o)) (base + r.val) := by
  have ht (k : Fin 5) (w) (hw : ∀ i o, w (ix3 0 i o) = W k i o) :
      term H x k w (ix2 r o) = tap (P (base + r.val + k.val)) (fun i => W k i o) := by
    rw [term_apply]
    congr 1
    · funext i; rw [hx]; congr 1; show base + (k.val + r.val) = _; omega
    · funext i; exact hw i o
  unfold block
  rw [shapeCast_ab_1ab_apply]
  show max (term H x 0 w0 (ix2 r o) + term H x 1 w1 (ix2 r o) + term H x 2 w2 (ix2 r o) + term H x 3 w3 (ix2 r o)
    + term H x 4 w4 (ix2 r o) + broadcastTo (M 512 256) (shapeCast (M 1 256) b H.self) H.bias (ix2 r o))
    (Ideal.ofBits .f32 0x00000000#32) = _
  rw [ht 0 w0 h0, ht 1 w1 h1, ht 2 w2 h2, ht 3 w3 h3, ht 4 w4 h4, Ideal.ofBits_zero_f32, broadcastTo_1b_ab_apply,
    show shapeCast (M 1 256) b H.self = b from shapeCast_self b H.self]
  rfl

/-- Rows below two rows of zeros. -/
theorem under_apply (H : Facts) (x : FVec Ideal (M 514 256) .bf16) (r : Fin 516) (i : Fin 256) :
    under H x (ix2 r i) = if h : 2 ≤ r.val then x (ix2 ⟨r.val - 2, by omega⟩ i) else 0 := by
  unfold under
  split
  · next h => exact cat0_lower _ _ _ r i ⟨r.val - 2, by omega⟩ (by show r.val - 2 + 2 = r.val; omega)
  · next h =>
    refine (cat0_upper _ _ _ r i (⟨r.val, by omega⟩ : Fin 2) rfl).trans ?_
    exact Ideal.ofBits_zero_bf16

/-- Rows above two rows of zeros. -/
theorem over_apply (H : Facts) (x : FVec Ideal (M 514 256) .bf16) (r : Fin 516) (i : Fin 256) :
    over H x (ix2 r i) = if h : r.val < 514 then x (ix2 ⟨r.val, h⟩ i) else 0 := by
  unfold over
  split
  · next h => exact cat0_upper _ _ _ r i ⟨r.val, h⟩ rfl
  · next h =>
    refine (cat0_lower _ _ _ r i ⟨r.val - 514, by omega⟩ (by show r.val - 514 + 514 = r.val; omega)).trans ?_
    exact Ideal.ofBits_zero_bf16

end Cert.Taps
-- ==== Proof.Chunks.lean ====
module

public import proofs.«01_k».proof.Proof.Gen.KernelIdeal.Value
public import proofs.«01_k».proof.Proof.Taps

/-!
# One grid point's block as eight chunks

At a grid point the kernel stores, for each of two sequences, four chunks of 512 rows.  Here are the chunks as
functions of the point's blocks and of the four scratch matrices, and the proof that each is the layer's rows it
names, so that together they are the layer on the two sequences.
-/

@[expose] public section

noncomputable section

namespace Cert.Chunks

open Idealize.ShloMosaic hiding ix1 ix2 ix3
open Idealize.ShloMosaic.ValueIdx Idealize.ShloMosaic.TcCoe Idealize.SL.Sem Cert.Spec Cert.Rows
open Cert.KernelIdeal Cert.KernelIdeal.Gen

/-- The shape relations at 514 rows. -/
theorem F514 : Rows.Facts 514 :=
  ⟨by decide, by decide, by decide, by decide, by decide, by decide, by decide, by decide, by decide⟩

/-- The shape relations at 516 rows. -/
theorem F516 : Rows.Facts 516 :=
  ⟨by decide, by decide, by decide, by decide, by decide, by decide, by decide, by decide, by decide⟩

/-- The convolution's shape relations. -/
theorem FT : Taps.Facts := ⟨by decide, by decide, by decide, by decide, by decide, by decide, by decide⟩

/-- What a scratch pair holds: the gate's weights over its bias, and the experts' weights over their biases, halved. -/
structure Holds (p : Weights) (gs : FVec Ideal S65x8 .bf16) (es : FVec Ideal S65x1024 .bf16) : Prop where
  gw : ∀ (i : Fin 64) e, gs (ix2 i.castSucc e) = p.gw i e
  gb : ∀ e, gs (ix2 (Fin.last 64) e) = p.gb e
  ew : ∀ (e : Fin 8) (i : Fin 64) (o : Fin 128), es (ix2 i.castSucc ⟨128 * e.val + o.val, by omega⟩) = Ideal.ofBits .f32 0x3F000000#32 * p.ew e i o
  eb : ∀ (e : Fin 8) (o : Fin 128), es (ix2 (Fin.last 64) ⟨128 * e.val + o.val, by omega⟩) = Ideal.ofBits .f32 0x3F000000#32 * p.eb e o
  rw : ∀ e i o, IsReal (p.ew e i o)
  rb : ∀ e o, IsReal (p.eb e o)

/-- The pattern of one half. -/
theorem half : Ideal.ofBits .f32 0x3F000000#32 = ((1 / 2 : ℝ) : EReal) := by
  simp [Ideal.ofBits, Ideal.ieee, -EReal.coe_mul]; norm_num

section

variable (A D : FVec Ideal S2x2048x64 .bf16) (gt : FVec Ideal S65x8 .bf16) (et : FVec Ideal S65x1024 .bf16)
  (gd : FVec Ideal S65x8 .bf16) (ed : FVec Ideal S65x1024 .bf16) (W : FVec Ideal S5x256x256 .bf16) (b : FVec Ideal S1x256 .f32)

/-- `n` rows of a sequence's two branches, from row `lo` on. -/
def span (n : ℕ) (H : Rows.Facts n) (bb lo : ℕ) (inb : ∀ a, (![bb, lo, 0] : Fin 3 → ℕ) a + (![1, n, 64] : Fin 3 → ℕ) a ≤ S2x2048x64.size a) :
    FVec Ideal (M n 256) .bf16 :=
  rows H (View.ld (Val := Elt Ideal) (e' := .bf16) A (Rect.unit (s := S2x2048x64) ![bb, lo, 0] ![1, n, 64] inb)) (View.ld (Val := Elt Ideal) (e' := .bf16) D (Rect.unit (s := S2x2048x64) ![bb, lo, 0] ![1, n, 64] inb))
    (View.ld (Val := Elt Ideal) (e' := .bf16) gt (Rect.unit (s := S65x8) ![0, 0] ![65, 8] inb_S65x8_S65x8_0_0)) (View.ld (Val := Elt Ideal) (e' := .bf16) et (Rect.unit (s := S65x1024) ![0, 0] ![65, 1024] inb_S65x1024_S65x1024_0_0))
    (View.ld (Val := Elt Ideal) (e' := .bf16) gd (Rect.unit (s := S65x8) ![0, 0] ![65, 8] inb_S65x8_S65x8_0_0)) (View.ld (Val := Elt Ideal) (e' := .bf16) ed (Rect.unit (s := S65x1024) ![0, 0] ![65, 1024] inb_S65x1024_S65x1024_0_0))

/-- The convolution of 516 rows with the point's five matrices. -/
def out (x : FVec Ideal (M 516 256) .bf16) : FVec Ideal S1x512x256 .f32 :=
  Taps.block FT x
    (View.ld (Val := Elt Ideal) (e' := .bf16) W (Rect.unit (s := S5x256x256) ![0, 0, 0] ![1, 256, 256] inb_S5x256x256_S1x256x256_0_0_0))
    (View.ld (Val := Elt Ideal) (e' := .bf16) W (Rect.unit (s := S5x256x256) ![1, 0, 0] ![1, 256, 256] inb_S5x256x256_S1x256x256_1_0_0))
    (View.ld (Val := Elt Ideal) (e' := .bf16) W (Rect.unit (s := S5x256x256) ![2, 0, 0] ![1, 256, 256] inb_S5x256x256_S1x256x256_2_0_0))
    (View.ld (Val := Elt Ideal) (e' := .bf16) W (Rect.unit (s := S5x256x256) ![3, 0, 0] ![1, 256, 256] inb_S5x256x256_S1x256x256_3_0_0))
    (View.ld (Val := Elt Ideal) (e' := .bf16) W (Rect.unit (s := S5x256x256) ![4, 0, 0] ![1, 256, 256] inb_S5x256x256_S1x256x256_4_0_0))
    (View.ld (Val := Elt Ideal) (e' := .f32) b (Rect.unit (s := S1x256) ![0, 0] ![1, 256] inb_S1x256_S1x256_0_0))

/-- The rectangle a chunk is stored through. -/
abbrev rect (bb lo : ℕ) (inb : ∀ a, (![bb, lo, 0] : Fin 3 → ℕ) a + (![1, 512, 256] : Fin 3 → ℕ) a ≤ S2x2048x256.size a) : Rect S2x2048x256 :=
  Rect.unit (s := S2x2048x256) ![bb, lo, 0] ![1, 512, 256] inb

/-- A grid point's eight chunks, last stored first. -/
def chunks : List (View.Piece (Elt Ideal) S2x2048x256 .f32) :=
  [⟨rect 1 1536 inb_S2x2048x256_S1x512x256_1_1536_0, out W b (Taps.over FT (span A D gt et gd ed 514 F514 1 1534 inb_S2x2048x64_S1x514x64_1_1534_0))⟩,
   ⟨rect 1 1024 inb_S2x2048x256_S1x512x256_1_1024_0, out W b (span A D gt et gd ed 516 F516 1 1022 inb_S2x2048x64_S1x516x64_1_1022_0)⟩,
   ⟨rect 1 512 inb_S2x2048x256_S1x512x256_1_512_0, out W b (span A D gt et gd ed 516 F516 1 510 inb_S2x2048x64_S1x516x64_1_510_0)⟩,
   ⟨rect 1 0 inb_S2x2048x256_S1x512x256_1_0_0, out W b (Taps.under FT (span A D gt et gd ed 514 F514 1 0 inb_S2x2048x64_S1x514x64_1_0_0))⟩,
   ⟨rect 0 1536 inb_S2x2048x256_S1x512x256_0_1536_0, out W b (Taps.over FT (span A D gt et gd ed 514 F514 0 1534 inb_S2x2048x64_S1x514x64_0_1534_0))⟩,
   ⟨rect 0 1024 inb_S2x2048x256_S1x512x256_0_1024_0, out W b (span A D gt et gd ed 516 F516 0 1022 inb_S2x2048x64_S1x516x64_0_1022_0)⟩,
   ⟨rect 0 512 inb_S2x2048x256_S1x512x256_0_512_0, out W b (span A D gt et gd ed 516 F516 0 510 inb_S2x2048x64_S1x516x64_0_510_0)⟩,
   ⟨rect 0 0 inb_S2x2048x256_S1x512x256_0_0_0, out W b (Taps.under FT (span A D gt et gd ed 514 F514 0 0 inb_S2x2048x64_S1x514x64_0_0_0))⟩]

/-! ### What a chunk holds -/

variable {A D gt et gd ed W b} {p q : Weights}

/-- Rows loaded from one sequence of a block. -/
theorem rows_ld (X : FVec Ideal S2x2048x64 .bf16) {n bb lo : ℕ} (inb : ∀ a, (![bb, lo, 0] : Fin 3 → ℕ) a + (![1, n, 64] : Fin 3 → ℕ) a ≤ S2x2048x64.size a)
    (hb : bb < 2) (hl : lo + n ≤ 2048) (r : Fin n) (j : Fin 64) :
    (View.ld (Val := Elt Ideal) (e' := .bf16) X (Rect.unit (s := S2x2048x64) ![bb, lo, 0] ![1, n, 64] inb) : FVec Ideal ⟨3, ![1, n, 64]⟩ .bf16) (ix3 0 r j)
      = X (ix3 ⟨bb, hb⟩ ⟨lo + r.val, by omega⟩ j) :=
  congrArg X (funext fun a => Fin.ext (by
    match a with
    | ⟨0, _⟩ => rfl
    | ⟨1, _⟩ => show lo + 1 * r.val = lo + r.val; omega
    | ⟨2, _⟩ => show 0 + 1 * j.val = j.val; omega))

/-- A matrix loaded from the five. -/
theorem taps_ld (W : FVec Ideal S5x256x256 .bf16) {k : ℕ} (inb : ∀ a, (![k, 0, 0] : Fin 3 → ℕ) a + (![1, 256, 256] : Fin 3 → ℕ) a ≤ S5x256x256.size a)
    (hk : k < 5) (i o : Fin 256) :
    (View.ld (Val := Elt Ideal) (e' := .bf16) W (Rect.unit (s := S5x256x256) ![k, 0, 0] ![1, 256, 256] inb) : FVec Ideal ⟨3, ![1, 256, 256]⟩ .bf16) (ix3 0 i o)
      = W (ix3 ⟨k, hk⟩ i o) :=
  congrArg W (funext fun a => Fin.ext (by
    match a with
    | ⟨0, _⟩ => rfl
    | ⟨1, _⟩ => show 0 + 1 * i.val = i.val; omega
    | ⟨2, _⟩ => show 0 + 1 * o.val = o.val; omega))

/-- Two zero offsets. -/
theorem zero2 : (![0, 0] : Fin 2 → ℕ) = fun _ => 0 := funext fun a => by
  match a with
  | ⟨0, _⟩ => rfl
  | ⟨1, _⟩ => rfl

/-- The rows of a span are the sequence's channels. -/
theorem span_apply (ht : Holds p gt et) (hd : Holds q gd ed) (fA : ∀ i, IsReal (A i)) (fD : ∀ i, IsReal (D i))
    {n : ℕ} (H : Rows.Facts n) {bb lo : ℕ} (inb) (hb : bb < 2) (hl : lo + n ≤ 2048) (r : Fin n) (i : Fin 256) :
    span A D gt et gd ed n H bb lo inb (ix2 r i)
      = channels (fun l j => A (ix3 ⟨bb, hb⟩ l j)) (fun l j => D (ix3 ⟨bb, hb⟩ l j)) p q ⟨lo + r.val, by omega⟩ i := by
  unfold span
  rw [rows_apply]
  unfold channels
  congr 1 <;> funext o
  · rw [branch_apply H _ _ _ half (gw := p.gw) (gb := p.gb) (ew := p.ew) (eb := p.eb)
      (by rw [View.ld_unit_zero zero2]; exact ht.gw) (by rw [View.ld_unit_zero zero2]; exact ht.gb)
      (by rw [View.ld_unit_zero zero2]; exact ht.ew) (by rw [View.ld_unit_zero zero2]; exact ht.eb) ht.rw ht.rb r
      (fun j => by rw [rows_ld A inb hb hl]; exact fA _) o]
    simp only [rows_ld A inb hb hl]
  · rw [branch_apply H _ _ _ half (gw := q.gw) (gb := q.gb) (ew := q.ew) (eb := q.eb)
      (by rw [View.ld_unit_zero zero2]; exact hd.gw) (by rw [View.ld_unit_zero zero2]; exact hd.gb)
      (by rw [View.ld_unit_zero zero2]; exact hd.ew) (by rw [View.ld_unit_zero zero2]; exact hd.eb) hd.rw hd.rb r
      (fun j => by rw [rows_ld D inb hb hl]; exact fD _) o]
    simp only [rows_ld D inb hb hl]

variable (A D W b p q) in
/-- The layer on the two sequences of a block. -/
def both (y : S2x2048x256.Idx) : EReal :=
  layer (fun l j => A (ix3 (y 0) l j)) (fun l j => D (ix3 (y 0) l j)) p q (fun k i o => W (ix3 k i o)) (fun o => b (ix2 0 o)) (y 1).val (y 2)

/-- A chunk's rows of the convolution are the layer's from `lo` on, when its 516 rows are the padded channels' from `lo` on. -/
theorem out_apply {x : FVec Ideal (M 516 256) .bf16} {bb lo : ℕ} (hb : bb < 2)
    (inb : ∀ a, (![bb, lo, 0] : Fin 3 → ℕ) a + (![1, 512, 256] : Fin 3 → ℕ) a ≤ S2x2048x256.size a)
    (hx : ∀ (r : Fin 516) i, x (ix2 r i) = padded (channels (fun l j => A (ix3 ⟨bb, hb⟩ l j)) (fun l j => D (ix3 ⟨bb, hb⟩ l j)) p q) (lo + r.val) i)
    (z : (rect bb lo inb).shape.Idx) : out W b x z = both A D W b p q ((rect bb lo inb).emb z) := by
  obtain ⟨u, r, o, rfl⟩ : ∃ (u : Fin 1) (r : Fin 512) (o : Fin 256), z = ix3 u r o := ⟨z 0, z 1, z 2, ValueIdx.eq_ix3 z⟩
  obtain rfl : u = 0 := Subsingleton.elim _ _
  have e : (rect bb lo inb).emb (ix3 0 r o) = ix3 ⟨bb, hb⟩ ⟨lo + r.val, by have := inb 1; change lo + 512 ≤ 2048 at this; omega⟩ o :=
    funext fun a => Fin.ext (by
      match a with
      | ⟨0, _⟩ => rfl
      | ⟨1, _⟩ => show lo + 1 * r.val = lo + r.val; omega
      | ⟨2, _⟩ => show 0 + 1 * o.val = o.val; omega)
  rw [e]
  unfold out
  rw [View.ld_unit_zero zero2]
  exact Taps.block_apply FT x _ _ _ _ _ _ _ lo hx (fun k i o => W (ix3 k i o)) (taps_ld W _ _) (taps_ld W _ _) (taps_ld W _ _) (taps_ld W _ _) (taps_ld W _ _) r o

/-- A grid point's chunks together are the layer on its two sequences. -/
theorem chunks_eq (ht : Holds p gt et) (hd : Holds q gd ed) (fA : ∀ i, IsReal (A i)) (fD : ∀ i, IsReal (D i))
    (y : S2x2048x256.Idx) (hy : ∃ s ∈ chunks A D gt et gd ed W b, y ∈ s.1.set) :
    View.canon (chunks A D gt et gd ed W b) y = both A D W b p q y := by
  have mid {bb lo : ℕ} (hb : bb < 2) (hl : lo + 516 ≤ 2048) (inb) (inb') (z) :
      out W b (span A D gt et gd ed 516 F516 bb lo inb) z = both A D W b p q ((rect bb (lo + 2) inb').emb z) :=
    out_apply hb inb' (fun r i => by
      rw [span_apply ht hd fA fD F516 inb hb hl]
      unfold padded
      rw [dif_pos (by omega)]
      congr 2; omega) z
  have upper {bb : ℕ} (hb : bb < 2) (inb) (inb') (z) :
      out W b (Taps.under FT (span A D gt et gd ed 514 F514 bb 0 inb)) z = both A D W b p q ((rect bb 0 inb').emb z) :=
    out_apply hb inb' (fun r i => by
      rw [Taps.under_apply]
      unfold padded
      by_cases h : 2 ≤ r.val
      · rw [dif_pos h, dif_pos (by omega), span_apply ht hd fA fD F514 inb hb (by omega)]
        congr 2; show 0 + (r.val - 2) = 0 + r.val - 2; omega
      · rw [dif_neg h, dif_neg (by omega)]) z
  have lower {bb : ℕ} (hb : bb < 2) (inb) (inb') (z) :
      out W b (Taps.over FT (span A D gt et gd ed 514 F514 bb 1534 inb)) z = both A D W b p q ((rect bb 1536 inb').emb z) :=
    out_apply hb inb' (fun r i => by
      rw [Taps.over_apply]
      unfold padded
      by_cases h : r.val < 514
      · rw [dif_pos h, dif_pos (by omega), span_apply ht hd fA fD F514 inb hb (by omega)]
        congr 2; show 1534 + r.val = 1536 + r.val - 2; omega
      · rw [dif_neg h, dif_neg (by omega)]) z
  refine View.canon_apply_of_pieces (both A D W b p q) _ (fun s hs => ?_) y hy
  simp only [chunks, List.mem_cons, List.not_mem_nil, or_false] at hs
  rcases hs with rfl | rfl | rfl | rfl | rfl | rfl | rfl | rfl
  · exact lower (by decide) _ (by decide)
  · exact mid (by decide) (by decide) _ (by decide)
  · exact mid (by decide) (by decide) _ (by decide)
  · exact upper (by decide) _ (by decide)
  · exact lower (by decide) _ (by decide)
  · exact mid (by decide) (by decide) _ (by decide)
  · exact mid (by decide) (by decide) _ (by decide)
  · exact upper (by decide) _ (by decide)

/-- A chunk's rectangle holds the entries of its sequence's 512 rows. -/
theorem mem_rect {bb lo : ℕ} (inb) (y : S2x2048x256.Idx) (h0 : (y 0).val = bb) (h1 : lo ≤ (y 1).val) (h2 : (y 1).val < lo + 512) :
    y ∈ (rect bb lo inb).set := by
  rw [Rect.mem_set_unit]
  intro a
  match a with
  | ⟨0, _⟩ => exact ⟨h0.ge, by show (y 0).val < bb + 1; omega⟩
  | ⟨1, _⟩ => exact ⟨h1, h2⟩
  | ⟨2, _⟩ => exact ⟨Nat.zero_le _, by have : (y 2).val < 256 := (y 2).isLt; show (y 2).val < 0 + 256; omega⟩

/-- Every entry of the block lies in one of the chunks. -/
theorem chunks_cover (y : S2x2048x256.Idx) : ∃ s ∈ chunks A D gt et gd ed W b, y ∈ s.1.set := by
  have hb : (y 0).val < 2 := (y 0).isLt
  have hl : (y 1).val < 2048 := (y 1).isLt
  unfold chunks
  simp only [List.exists_mem_cons_iff, List.not_mem_nil, false_and, exists_false, or_false]
  rcases (by omega : (y 0).val = 1 ∨ (y 0).val = 0) with h | h <;>
    rcases (by omega : 1536 ≤ (y 1).val ∨ (1024 ≤ (y 1).val ∧ (y 1).val < 1536) ∨ (512 ≤ (y 1).val ∧ (y 1).val < 1024) ∨ (y 1).val < 512) with k | k | k | k
  · exact .inl (mem_rect _ y h k (by omega))
  · exact .inr (.inl (mem_rect _ y h k.1 k.2))
  · exact .inr (.inr (.inl (mem_rect _ y h k.1 k.2)))
  · exact .inr (.inr (.inr (.inl (mem_rect _ y h (Nat.zero_le _) k))))
  · exact .inr (.inr (.inr (.inr (.inl (mem_rect _ y h k (by omega))))))
  · exact .inr (.inr (.inr (.inr (.inr (.inl (mem_rect _ y h k.1 k.2))))))
  · exact .inr (.inr (.inr (.inr (.inr (.inr (.inl (mem_rect _ y h k.1 k.2)))))))
  · exact .inr (.inr (.inr (.inr (.inr (.inr (.inr (mem_rect _ y h (Nat.zero_le _) k)))))))

end

end Cert.Chunks
-- ==== Proof.Scratch.lean ====
module

public import proofs.«01_k».proof.Proof.Chunks

/-!
# What the first grid point leaves in the scratch matrices

Each gate's weights are stored in the rows above the last, and then, read back, over the bias.  So are each expert's
weights and bias, halved, in the expert's 128 columns.
-/

@[expose] public section

noncomputable section

namespace Cert.Scratch

open Idealize.ShloMosaic hiding ix1 ix2 ix3
open Idealize.ShloMosaic.ValueIdx Idealize.ShloMosaic.TcCoe Idealize.SL.Sem Cert.Spec Cert.Rows Cert.Chunks
open Cert.KernelIdeal Cert.KernelIdeal.Gen

/-- A gate's scratch matrix: the weights in the rows above the last, then those rows over the bias. -/
def gate (gw : FVec Ideal S64x8 .f32) (gb : FVec Ideal S1x8 .f32) : FVec Ideal S65x8 .bf16 :=
  View.canon (Val := Elt Ideal) (e := .bf16) [⟨Rect.unit (s := S65x8) ![0, 0] ![65, 8] inb_S65x8_S65x8_0_0,
    k0_pay3 (k0_pay2 (View.ld (Val := Elt Ideal) (e' := .f32) gw (Rect.unit (s := S64x8) ![0, 0] ![64, 8] inb_S64x8_S64x8_0_0)))
      (View.ld (Val := Elt Ideal) (e' := .f32) gb (Rect.unit (s := S1x8) ![0, 0] ![1, 8] inb_S1x8_S1x8_0_0))⟩,
    ⟨Rect.unit (s := S65x8) ![0, 0] ![64, 8] inb_S65x8_S64x8_0_0,
      k0_pay2 (View.ld (Val := Elt Ideal) (e' := .f32) gw (Rect.unit (s := S64x8) ![0, 0] ![64, 8] inb_S64x8_S64x8_0_0))⟩]

/-- One expert's halved weights. -/
def halved (W : FVec Ideal S8x64x128 .f32) (e : ℕ) (inw : ∀ a, (![e, 0, 0] : Fin 3 → ℕ) a + (![1, 64, 128] : Fin 3 → ℕ) a ≤ S8x64x128.size a) :
    FVec Ideal S64x128 .bf16 :=
  k0_pay4 (View.ld (Val := Elt Ideal) (e' := .f32) W (Rect.unit (s := S8x64x128) ![e, 0, 0] ![1, 64, 128] inw))

/-- One expert's columns of its scratch matrix, above the last row. -/
def upper (W : FVec Ideal S8x64x128 .f32) (e : ℕ)
    (inu : ∀ a, (![0, 128 * e] : Fin 2 → ℕ) a + (![64, 128] : Fin 2 → ℕ) a ≤ S65x1024.size a)
    (inw : ∀ a, (![e, 0, 0] : Fin 3 → ℕ) a + (![1, 64, 128] : Fin 3 → ℕ) a ≤ S8x64x128.size a) : View.Piece (Elt Ideal) S65x1024 .bf16 :=
  ⟨Rect.unit (s := S65x1024) ![0, 128 * e] ![64, 128] inu, halved W e inw⟩

/-- One expert's columns of its scratch matrix. -/
def column (W : FVec Ideal S8x64x128 .f32) (b : FVec Ideal S8x128 .f32) (e : ℕ)
    (inb : ∀ a, (![0, 128 * e] : Fin 2 → ℕ) a + (![65, 128] : Fin 2 → ℕ) a ≤ S65x1024.size a)
    (inw : ∀ a, (![e, 0, 0] : Fin 3 → ℕ) a + (![1, 64, 128] : Fin 3 → ℕ) a ≤ S8x64x128.size a)
    (inv : ∀ a, (![e, 0] : Fin 2 → ℕ) a + (![1, 128] : Fin 2 → ℕ) a ≤ S8x128.size a) : View.Piece (Elt Ideal) S65x1024 .bf16 :=
  ⟨Rect.unit (s := S65x1024) ![0, 128 * e] ![65, 128] inb,
    k0_pay5 (halved W e inw) (View.ld (Val := Elt Ideal) (e' := .f32) b (Rect.unit (s := S8x128) ![e, 0] ![1, 128] inv))⟩

/-- The experts' columns, the last stored first. -/
def columns (W : FVec Ideal S8x64x128 .f32) (b : FVec Ideal S8x128 .f32) : List (View.Piece (Elt Ideal) S65x1024 .bf16) :=
  [column W b 7 (by decide) (by decide) (by decide), upper W 7 (by decide) (by decide),
    column W b 6 (by decide) (by decide) (by decide), upper W 6 (by decide) (by decide),
    column W b 5 (by decide) (by decide) (by decide), upper W 5 (by decide) (by decide),
    column W b 4 (by decide) (by decide) (by decide), upper W 4 (by decide) (by decide),
    column W b 3 (by decide) (by decide) (by decide), upper W 3 (by decide) (by decide),
    column W b 2 (by decide) (by decide) (by decide), upper W 2 (by decide) (by decide),
    column W b 1 (by decide) (by decide) (by decide), upper W 1 (by decide) (by decide),
    column W b 0 (by decide) (by decide) (by decide), upper W 0 (by decide) (by decide)]

/-- The experts' scratch matrix. -/
def experts (W : FVec Ideal S8x64x128 .f32) (b : FVec Ideal S8x128 .f32) : FVec Ideal S65x1024 .bf16 :=
  View.canon (Val := Elt Ideal) (e := .bf16) (columns W b)

/-- A gate's scratch matrix holds the weights and, in its last row, the bias. -/
theorem gate_apply (gw : FVec Ideal S64x8 .f32) (gb : FVec Ideal S1x8 .f32) (e : Fin 8) :
    (∀ i : Fin 64, gate gw gb (ix2 i.castSucc e) = gw (ix2 i e)) ∧ gate gw gb (ix2 (Fin.last 64) e) = gb (ix2 0 e) := by
  unfold gate
  rw [View.canon_cons_unit_zero zero2, View.ld_unit_zero zero2, View.ld_unit_zero zero2]
  unfold k0_pay3 k0_pay2
  dsimp only
  rw [shapeCast_self, shapeCast_self, shapeCast_self]
  exact ⟨fun i => cat0_upper _ _ _ _ _ i rfl, cat0_lower _ _ _ _ _ 0 rfl⟩

/-- The experts' scratch matrix as a function of its entries' rows and columns. -/
def stacked (W : FVec Ideal S8x64x128 .f32) (b : FVec Ideal S8x128 .f32) (y : S65x1024.Idx) : EReal :=
  Ideal.ofBits .f32 0x3F000000#32 *
    (if h : (y 0).val < 64 then W (ix3 ⟨(y 1).val / 128, by have : (y 1).val < 1024 := (y 1).isLt; omega⟩ ⟨(y 0).val, h⟩ ⟨(y 1).val % 128, by omega⟩)
      else b (ix2 ⟨(y 1).val / 128, by have : (y 1).val < 1024 := (y 1).isLt; omega⟩ ⟨(y 1).val % 128, by omega⟩))

/-- An entry of an expert's halved weights is the stacked matrix's. -/
theorem halved_stacked (W : FVec Ideal S8x64x128 .f32) (b : FVec Ideal S8x128 .f32) {e : ℕ} (he : e < 8) (inw) (i : Fin 64) (o : Fin 128)
    (y : S65x1024.Idx) (h0 : (y 0).val = i.val) (h1 : (y 1).val = 128 * e + o.val) : halved W e inw (ix2 i o) = stacked W b y := by
  have h : (y 0).val < 64 := by omega
  unfold halved k0_pay4
  rw [shapeCast_self]
  refine (congrArg (Ideal.ofBits .f32 0x3F000000#32 * ·) (shapeCast_1ab_ab_apply _ _ i o)).trans ?_
  unfold stacked
  refine congrArg (Ideal.ofBits .f32 0x3F000000#32 * ·) ?_
  refine Eq.trans ?_ (dif_pos h).symm
  refine congrArg W (funext fun a => Fin.ext ?_)
  match a with
  | ⟨0, _⟩ => show e + 1 * 0 = (y 1).val / 128; omega
  | ⟨1, _⟩ => show 0 + 1 * i.val = (y 0).val; omega
  | ⟨2, _⟩ => show 0 + 1 * o.val = (y 1).val % 128; omega

/-- An expert's columns above the last row are the stacked matrix's. -/
theorem upper_stacked (W : FVec Ideal S8x64x128 .f32) (b : FVec Ideal S8x128 .f32) {e : ℕ} (he : e < 8) (inu inw)
    (z : (upper W e inu inw).1.shape.Idx) : (upper W e inu inw).2 z = stacked W b ((upper W e inu inw).1.emb z) := by
  obtain ⟨i, o, rfl⟩ : ∃ (i : Fin 64) (o : Fin 128), z = ix2 i o := ⟨z 0, z 1, ValueIdx.eq_ix2 z⟩
  exact halved_stacked W b he inw i o _ (by show 0 + 1 * i.val = i.val; omega) (by show 128 * e + 1 * o.val = 128 * e + o.val; omega)

/-- An expert's columns are the stacked matrix's. -/
theorem column_stacked (W : FVec Ideal S8x64x128 .f32) (b : FVec Ideal S8x128 .f32) {e : ℕ} (he : e < 8) (inb inw inv)
    (z : (column W b e inb inw inv).1.shape.Idx) :
    (column W b e inb inw inv).2 z = stacked W b ((column W b e inb inw inv).1.emb z) := by
  obtain ⟨i, o, rfl⟩ : ∃ (i : Fin 65) (o : Fin 128), z = ix2 i o := ⟨z 0, z 1, ValueIdx.eq_ix2 z⟩
  have hE : (column W b e inb inw inv).1.emb (ix2 i o) = ix2 i ⟨128 * e + o.val, by omega⟩ :=
    funext fun a => Fin.ext (by
      match a with
      | ⟨0, _⟩ => show 0 + 1 * i.val = i.val; omega
      | ⟨1, _⟩ => show 128 * e + 1 * o.val = 128 * e + o.val; omega)
  rw [hE]
  have hq : (128 * e + o.val) / 128 = e := by omega
  unfold column k0_pay5
  dsimp only
  rw [shapeCast_self]
  by_cases h : i.val < 64
  · exact (cat0_upper _ _ _ i o ⟨i.val, h⟩ rfl).trans (halved_stacked W b he inw ⟨i.val, h⟩ o _ rfl rfl)
  · refine (cat0_lower _ _ _ i o (0 : Fin 1) (by show 0 + 64 = i.val; omega)).trans ?_
    unfold stacked
    refine congrArg (Ideal.ofBits .f32 0x3F000000#32 * ·) ?_
    refine Eq.trans ?_ (dif_neg h).symm
    refine congrArg b (funext fun a => Fin.ext ?_)
    match a with
    | ⟨0, _⟩ => exact hq.symm
    | ⟨1, _⟩ => show 0 + 1 * o.val = (128 * e + o.val) % 128; omega

/-- The experts' columns meet every entry: entry `(i, 128 e + o)` lies in expert `e`'s. -/
theorem column_mem (W : FVec Ideal S8x64x128 .f32) (b : FVec Ideal S8x128 .f32) {e : ℕ} (inb inw inv) (i : Fin 65) (o : Fin 128) (h : 128 * e + o.val < 1024) :
    (ix2 i ⟨128 * e + o.val, h⟩ : S65x1024.Idx) ∈ (column W b e inb inw inv).1.set := by
  unfold column
  dsimp only
  rw [Rect.mem_set_unit]
  intro a
  match a with
  | ⟨0, _⟩ => exact ⟨Nat.zero_le _, by show i.val < 0 + 65; omega⟩
  | ⟨1, _⟩ => exact ⟨Nat.le_add_right _ _, by show 128 * e + o.val < 128 * e + 128; omega⟩

/-- The experts' scratch matrix is the stacked matrix. -/
theorem experts_eq (W : FVec Ideal S8x64x128 .f32) (b : FVec Ideal S8x128 .f32) (i : Fin 65) (e : Fin 8) (o : Fin 128) :
    experts W b (ix2 i ⟨128 * e.val + o.val, by omega⟩) = stacked W b (ix2 i ⟨128 * e.val + o.val, by omega⟩) := by
  refine View.canon_apply_of_pieces (Val := Elt Ideal) (e := .bf16) (stacked W b) _ (fun s hs => ?_) _ ?_
  · simp only [columns, List.mem_cons, List.not_mem_nil, or_false] at hs
    rcases hs with rfl | rfl | rfl | rfl | rfl | rfl | rfl | rfl | rfl | rfl | rfl | rfl | rfl | rfl | rfl | rfl <;>
      first | exact column_stacked W b (by decide) _ _ _ | exact upper_stacked W b (by decide) _ _
  · have hm : ∀ inb inw inv, column W b e.val inb inw inv ∈ columns W b := by
      intro _ _ _
      fin_cases e <;> simp [columns]
    have h1 : ∀ e : Fin 8, ∀ a, (![0, 128 * e.val] : Fin 2 → ℕ) a + (![65, 128] : Fin 2 → ℕ) a ≤ S65x1024.size a := by decide
    have h2 : ∀ e : Fin 8, ∀ a, (![e.val, 0, 0] : Fin 3 → ℕ) a + (![1, 64, 128] : Fin 3 → ℕ) a ≤ S8x64x128.size a := by decide
    have h3 : ∀ e : Fin 8, ∀ a, (![e.val, 0] : Fin 2 → ℕ) a + (![1, 128] : Fin 2 → ℕ) a ≤ S8x128.size a := by decide
    exact ⟨column W b e.val (h1 e) (h2 e) (h3 e), hm _ _ _, column_mem W b _ _ _ i o _⟩

/-- The two scratch matrices of a branch hold its weights. -/
theorem holds (gw : FVec Ideal S64x8 .f32) (gb : FVec Ideal S1x8 .f32) (W : FVec Ideal S8x64x128 .f32) (b : FVec Ideal S8x128 .f32)
    (fW : ∀ i, IsReal (W i)) (fb : ∀ i, IsReal (b i)) :
    Holds ⟨fun i e => gw (ix2 i e), fun e => gb (ix2 0 e), fun e i o => W (ix3 e i o), fun e o => b (ix2 e o)⟩ (gate gw gb) (experts W b) where
  gw i e := (gate_apply gw gb e).1 i
  gb e := (gate_apply gw gb e).2
  ew e i o := by
    rw [experts_eq]
    unfold stacked
    refine congrArg (Ideal.ofBits .f32 0x3F000000#32 * ·) ((dif_pos i.isLt).trans (congrArg W (funext fun a => Fin.ext ?_)))
    match a with
    | ⟨0, _⟩ => show (128 * e.val + o.val) / 128 = e.val; omega
    | ⟨1, _⟩ => rfl
    | ⟨2, _⟩ => show (128 * e.val + o.val) % 128 = o.val; omega
  eb e o := by
    rw [experts_eq]
    unfold stacked
    refine congrArg (Ideal.ofBits .f32 0x3F000000#32 * ·) ((dif_neg (lt_irrefl 64)).trans (congrArg b (funext fun a => Fin.ext ?_)))
    match a with
    | ⟨0, _⟩ => show (128 * e.val + o.val) / 128 = e.val; omega
    | ⟨1, _⟩ => show (128 * e.val + o.val) % 128 = o.val; omega
  rw _ _ _ := fW _
  rb _ _ := fb _

end Cert.Scratch

end
-- ==== Proof.Point.lean ====
module

public import proofs.«01_k».proof.Proof.Scratch

/-!
# What one grid point leaves

The first point fills the scratch matrices and its block; the second reads the scratch matrices the first left.  Either
way the block is the eight chunks over the point's input blocks.
-/

@[expose] public section

noncomputable section

namespace Cert.Point

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD) (t : Fin cfg0.N)
  (acc : Vec Ideal S2x2048x256 .f32 × Vec Ideal S65x8 .bf16 × Vec Ideal S65x1024 .bf16 × Vec Ideal S65x8 .bf16 × Vec Ideal S65x1024 .bf16)

/-- The rows of a gate's matrix just stored, read back. -/
theorem back8 {sig : RefSig} {κ : Kind} {sp : Space} (v : View sig κ sp S65x8 .bf16) (inb : ∀ a, (![0, 0] : Fin 2 → ℕ) a + (![64, 8] : Fin 2 → ℕ) a ≤ S65x8.size a)
    (x : (Rect.unit (s := S65x8) ![0, 0] ![64, 8] inb).shape.Idx → Elt Ideal .bf16) (L : List (View.Piece (Elt Ideal) S65x8 .bf16)) :
    v.readCov (⟨Rect.unit (s := S65x8) ![0, 0] ![64, 8] inb, x⟩ :: L) (Rect.unit (s := S65x8) ![0, 0] ![64, 8] inb).toLoadRect = x :=
  View.readCov_cons_toLoadRect v _ x L

/-- The rows of an expert's columns just stored, read back. -/
theorem back128 {sig : RefSig} {κ : Kind} {sp : Space} (v : View sig κ sp S65x1024 .bf16) (q : ℕ)
    (inb : ∀ a, (![0, q] : Fin 2 → ℕ) a + (![64, 128] : Fin 2 → ℕ) a ≤ S65x1024.size a)
    (x : (Rect.unit (s := S65x1024) ![0, q] ![64, 128] inb).shape.Idx → Elt Ideal .bf16) (L : List (View.Piece (Elt Ideal) S65x1024 .bf16)) :
    v.readCov (⟨Rect.unit (s := S65x1024) ![0, q] ![64, 128] inb, x⟩ :: L) (Rect.unit (s := S65x1024) ![0, q] ![64, 128] inb).toLoadRect = x :=
  View.readCov_cons_toLoadRect v _ x L

/-- At a later point the block is the chunks over the scratch matrices left before it. -/
theorem later (h0 : ¬ t.val % 2 = 0) : (stAt0 m c t.val t.isLt acc).1 =
    View.canon (Chunks.chunks (iblk m c 0 t) (iblk m c 1 t) acc.2.1 acc.2.2.1 acc.2.2.2.1 acc.2.2.2.2 (iblk m c 10 t) (iblk m c 11 t)) := by
  rw [stAt0_B m c t acc h0]
  dsimp only
  unfold out0_B_12
  rw [View.read_writes_eq_canon _ _ _ (cover0_B_12 c _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_10 t).read_unread, (hs0_11 t).read_unread, (Memref.isWhole_whole _).read_unread]
  rfl

/-- The first point leaves the first gate's matrix in the first scratch. -/
theorem scratch0 (h0 : t.val % 2 = 0) : (stAt0 m c t.val t.isLt acc).2.1 = Scratch.gate (iblk m c 2 t) (iblk m c 3 t) := by
  rw [stAt0_A m c t acc h0]
  dsimp only
  unfold sout0_A_0
  rw [View.read_writes_junk_eq_canon]
  unfold kernelRun0_A
  dsimp only
  sl_unfold_words
  simp only [View.readAt_eq_ld, back8, back128, (hs0_2 t).read_unread, (hs0_3 t).read_unread]
  rfl

/-- The first point leaves the first experts' matrix in the second scratch. -/
theorem scratch1 (h0 : t.val % 2 = 0) : (stAt0 m c t.val t.isLt acc).2.2.1 = Scratch.experts (iblk m c 4 t) (iblk m c 5 t) := by
  rw [stAt0_A m c t acc h0]
  dsimp only
  unfold sout0_A_1
  rw [View.read_writes_junk_eq_canon]
  unfold kernelRun0_A
  dsimp only
  sl_unfold_words
  simp only [View.readAt_eq_ld, back8, back128, (hs0_4 t).read_unread, (hs0_5 t).read_unread]
  rfl

/-- The first point leaves the second gate's matrix in the third scratch. -/
theorem scratch2 (h0 : t.val % 2 = 0) : (stAt0 m c t.val t.isLt acc).2.2.2.1 = Scratch.gate (iblk m c 6 t) (iblk m c 7 t) := by
  rw [stAt0_A m c t acc h0]
  dsimp only
  unfold sout0_A_2
  rw [View.read_writes_junk_eq_canon]
  unfold kernelRun0_A
  dsimp only
  sl_unfold_words
  simp only [View.readAt_eq_ld, back8, back128, (hs0_6 t).read_unread, (hs0_7 t).read_unread]
  rfl

/-- The first point leaves the second experts' matrix in the fourth scratch. -/
theorem scratch3 (h0 : t.val % 2 = 0) : (stAt0 m c t.val t.isLt acc).2.2.2.2 = Scratch.experts (iblk m c 8 t) (iblk m c 9 t) := by
  rw [stAt0_A m c t acc h0]
  dsimp only
  unfold sout0_A_3
  rw [View.read_writes_junk_eq_canon]
  unfold kernelRun0_A
  dsimp only
  sl_unfold_words
  simp only [View.readAt_eq_ld, back8, back128, (hs0_8 t).read_unread, (hs0_9 t).read_unread]
  rfl

/-- At the first point the block is the chunks over the scratch matrices it fills. -/
theorem first (h0 : t.val % 2 = 0) : (stAt0 m c t.val t.isLt acc).1 =
    View.canon (Chunks.chunks (iblk m c 0 t) (iblk m c 1 t) (Scratch.gate (iblk m c 2 t) (iblk m c 3 t)) (Scratch.experts (iblk m c 4 t) (iblk m c 5 t))
      (Scratch.gate (iblk m c 6 t) (iblk m c 7 t)) (Scratch.experts (iblk m c 8 t) (iblk m c 9 t)) (iblk m c 10 t) (iblk m c 11 t)) := by
  rw [stAt0_A m c t acc h0]
  dsimp only
  unfold out0_A_12
  rw [View.read_writes_junk_eq_canon]
  unfold kernelRun0_A
  dsimp only
  sl_unfold_words
  simp only [back8, back128]
  simp only [View.readAt_eq_ld, View.readCov_eq_canon', (hs0_0 t).read_unread, (hs0_1 t).read_unread, (hs0_2 t).read_unread, (hs0_3 t).read_unread, (hs0_4 t).read_unread, (hs0_5 t).read_unread,
    (hs0_6 t).read_unread, (hs0_7 t).read_unread, (hs0_8 t).read_unread, (hs0_9 t).read_unread, (hs0_10 t).read_unread, (hs0_11 t).read_unread]
  rfl

end Cert.Point

end
-- ==== Proof.Result.lean ====
module

public import proofs.«01_k».proof.Proof.Rows

/-!
# The layer's result on the twelve arguments

The two mixtures' channels side by side, then the five-tap convolution along the sequence and the rectifier, entry by
entry of the result array.
-/

@[expose] public section

noncomputable section

namespace Cert.Result

open Idealize.ShloMosaic hiding ix1 ix2 ix3
open Idealize.ShloMosaic.ValueIdx Cert.Spec

/-- A gate's and its experts' weights, from their four arrays. -/
def weights (gw : (⟨2, ![64, 8]⟩ : Shape).Idx → EReal) (gb : (⟨1, ![8]⟩ : Shape).Idx → EReal)
    (ew : (⟨3, ![8, 64, 128]⟩ : Shape).Idx → EReal) (eb : (⟨2, ![8, 128]⟩ : Shape).Idx → EReal) : Weights :=
  ⟨fun i e => gw (ix2 i e), fun e => gb (ix1 e), fun e i o => ew (ix3 e i o), fun e o => eb (ix2 e o)⟩

/-- The result at sequence `n`, position `l`, output channel `o`. -/
def result (a d : (⟨3, ![4, 2048, 64]⟩ : Shape).Idx → EReal) (p q : Weights) (w : (⟨3, ![256, 256, 5]⟩ : Shape).Idx → EReal)
    (b : (⟨1, ![256]⟩ : Shape).Idx → EReal) (n : Fin 4) (l : Fin 2048) (o : Fin 256) : EReal :=
  layer (fun l j => a (ix3 n l j)) (fun l j => d (ix3 n l j)) p q (fun k i o => w (ix3 o i k)) (fun o => b (ix1 o)) l.val o

end Cert.Result

end
-- ==== Proof.Array.lean ====
module

public import proofs.«01_k».proof.Proof.Point
public import proofs.«01_k».proof.Proof.Result

/-!
# What the result array holds

Each grid point's block, over what the two points leave, is the layer's result on the point's two sequences.
-/

@[expose] public section

noncomputable section

namespace Cert.Array

open Idealize.ShloMosaic hiding ix1 ix2 ix3
open Idealize.ShloMosaic.ValueIdx Idealize.ShloMosaic.TcCoe Idealize.SL.Sem Cert.Spec Cert.Chunks Cert.Result
open Cert.KernelIdeal Cert.KernelIdeal.Gen Cert.KernelIdeal.Value

variable (m : (ℓ : Loc nD τ sig) → Buf (Elt Ideal) ℓ) (c : Dev nD) (t : Fin cfg0.N)

/-- Point `t`'s blocks of the first two arrays start at sequence `2 t`. -/
theorem starts : ∀ t : Fin cfg0.N, (win0_0.index t (0 : Fin 3) = t.val ∧ win0_0.index t (1 : Fin 3) = 0 ∧ win0_0.index t (2 : Fin 3) = 0)
    ∧ win0_1.index t (0 : Fin 3) = t.val ∧ win0_1.index t (1 : Fin 3) = 0 ∧ win0_1.index t (2 : Fin 3) = 0 :=
  (by decide +kernel : ∀ t : Fin grid0.N, _)

/-- A block that starts at zero reads the array at the block's own index. -/
theorem placed {i s k : ℕ} (h : i = 0) : i * s + 1 * k = k := by subst h; omega

/-- The first input's block. -/
theorem block0 (u : Fin 2) (l : Fin 2048) (j : Fin 64) (n : Fin 4) (h : n.val = 2 * t.val + u.val) :
    (iblk m c 0 t : FVec Ideal S2x2048x64 .bf16) (ix3 u l j) = (m ((c : Thread nD τ).loc main_arg0) : FVec Ideal S4x2048x64 .f32) (ix3 n l j) := by
  unfold iblk
  obtain ⟨⟨e0, e1, e2⟩, -⟩ := starts t
  have e : (V m c main_call0_v0 : FVec Ideal S4x2048x64 .bf16)
      = (truncf .bf16 (m ((c : Thread nD τ).loc main_arg0) : FVec Ideal S4x2048x64 .f32) bitsLt_bf16_f32 : FVec Ideal S4x2048x64 .bf16) := by
    entry_read
    rfl
  refine (congrFun e _).trans (congrArg (m ((c : Thread nD τ).loc main_arg0) : FVec Ideal S4x2048x64 .f32) (funext fun a => Fin.ext ?_))
  match a with
  | ⟨0, _⟩ => show win0_0.index t (0 : Fin 3) * 2 + 1 * u.val = n.val; omega
  | ⟨1, _⟩ => exact placed e1
  | ⟨2, _⟩ => exact placed e2

/-- The second input's block. -/
theorem block1 (u : Fin 2) (l : Fin 2048) (j : Fin 64) (n : Fin 4) (h : n.val = 2 * t.val + u.val) :
    (iblk m c 1 t : FVec Ideal S2x2048x64 .bf16) (ix3 u l j) = (m ((c : Thread nD τ).loc main_arg1) : FVec Ideal S4x2048x64 .f32) (ix3 n l j) := by
  unfold iblk
  obtain ⟨-, e0, e1, e2⟩ := starts t
  have e : (V m c main_call0_v1 : FVec Ideal S4x2048x64 .bf16)
      = (truncf .bf16 (m ((c : Thread nD τ).loc main_arg1) : FVec Ideal S4x2048x64 .f32) bitsLt_bf16_f32 : FVec Ideal S4x2048x64 .bf16) := by
    entry_read
    rfl
  refine (congrFun e _).trans (congrArg (m ((c : Thread nD τ).loc main_arg1) : FVec Ideal S4x2048x64 .f32) (funext fun a => Fin.ext ?_))
  match a with
  | ⟨0, _⟩ => show win0_1.index t (0 : Fin 3) * 2 + 1 * u.val = n.val; omega
  | ⟨1, _⟩ => exact placed e1
  | ⟨2, _⟩ => exact placed e2

/-- The first gate's weights. -/
theorem block2 : (iblk m c 2 t : FVec Ideal S64x8 .f32) = (m ((c : Thread nD τ).loc main_arg2) : FVec Ideal S64x8 .f32) :=
  funext fun _ => (congrArg (V m c main_arg2 : FVec Ideal S64x8 .f32) (funext fun a => Fin.ext (by
    match a with
    | ⟨0, _⟩ => exact placed rfl
    | ⟨1, _⟩ => exact placed rfl))).trans (congrFun (V_main_arg2 m c) _)

/-- The first experts' weights. -/
theorem block4 : (iblk m c 4 t : FVec Ideal S8x64x128 .f32) = (m ((c : Thread nD τ).loc main_arg4) : FVec Ideal S8x64x128 .f32) :=
  funext fun _ => (congrArg (V m c main_arg4 : FVec Ideal S8x64x128 .f32) (funext fun a => Fin.ext (by
    match a with
    | ⟨0, _⟩ => exact placed rfl
    | ⟨1, _⟩ => exact placed rfl
    | ⟨2, _⟩ => exact placed rfl))).trans (congrFun (V_main_arg4 m c) _)

/-- The first experts' biases. -/
theorem block5 : (iblk m c 5 t : FVec Ideal S8x128 .f32) = (m ((c : Thread nD τ).loc main_arg5) : FVec Ideal S8x128 .f32) :=
  funext fun _ => (congrArg (V m c main_arg5 : FVec Ideal S8x128 .f32) (funext fun a => Fin.ext (by
    match a with
    | ⟨0, _⟩ => exact placed rfl
    | ⟨1, _⟩ => exact placed rfl))).trans (congrFun (V_main_arg5 m c) _)

/-- The second gate's weights. -/
theorem block6 : (iblk m c 6 t : FVec Ideal S64x8 .f32) = (m ((c : Thread nD τ).loc main_arg6) : FVec Ideal S64x8 .f32) :=
  funext fun _ => (congrArg (V m c main_arg6 : FVec Ideal S64x8 .f32) (funext fun a => Fin.ext (by
    match a with
    | ⟨0, _⟩ => exact placed rfl
    | ⟨1, _⟩ => exact placed rfl))).trans (congrFun (V_main_arg6 m c) _)

/-- The second experts' weights. -/
theorem block8 : (iblk m c 8 t : FVec Ideal S8x64x128 .f32) = (m ((c : Thread nD τ).loc main_arg8) : FVec Ideal S8x64x128 .f32) :=
  funext fun _ => (congrArg (V m c main_arg8 : FVec Ideal S8x64x128 .f32) (funext fun a => Fin.ext (by
    match a with
    | ⟨0, _⟩ => exact placed rfl
    | ⟨1, _⟩ => exact placed rfl
    | ⟨2, _⟩ => exact placed rfl))).trans (congrFun (V_main_arg8 m c) _)

/-- The second experts' biases. -/
theorem block9 : (iblk m c 9 t : FVec Ideal S8x128 .f32) = (m ((c : Thread nD τ).loc main_arg9) : FVec Ideal S8x128 .f32) :=
  funext fun _ => (congrArg (V m c main_arg9 : FVec Ideal S8x128 .f32) (funext fun a => Fin.ext (by
    match a with
    | ⟨0, _⟩ => exact placed rfl
    | ⟨1, _⟩ => exact placed rfl))).trans (congrFun (V_main_arg9 m c) _)

/-- The first gate's bias, as a row. -/
theorem block3 (e : Fin 8) : (iblk m c 3 t : FVec Ideal S1x8 .f32) (ix2 0 e) = (m ((c : Thread nD τ).loc main_arg3) : FVec Ideal S8 .f32) (ix1 e) := by
  have h : (V m c main_call0_v4 : FVec Ideal S1x8 .f32) = shapeCast S1x8 (m ((c : Thread nD τ).loc main_arg3) : FVec Ideal S8 .f32) shapeCasts_S8_S1x8 := by
    entry_read
    rfl
  refine (congrArg (V m c main_call0_v4 : FVec Ideal S1x8 .f32) (funext fun a => Fin.ext (?_ : _ = (ix2 (0 : Fin 1) e a).val))).trans
    ((congrFun h _).trans (shapeCast_a_1a_apply _ _ 0 e))
  match a with
  | ⟨0, _⟩ => exact placed rfl
  | ⟨1, _⟩ => exact placed rfl

/-- The second gate's bias, as a row. -/
theorem block7 (e : Fin 8) : (iblk m c 7 t : FVec Ideal S1x8 .f32) (ix2 0 e) = (m ((c : Thread nD τ).loc main_arg7) : FVec Ideal S8 .f32) (ix1 e) := by
  have h : (V m c main_call0_v5 : FVec Ideal S1x8 .f32) = shapeCast S1x8 (m ((c : Thread nD τ).loc main_arg7) : FVec Ideal S8 .f32) shapeCasts_S8_S1x8 := by
    entry_read
    rfl
  refine (congrArg (V m c main_call0_v5 : FVec Ideal S1x8 .f32) (funext fun a => Fin.ext (?_ : _ = (ix2 (0 : Fin 1) e a).val))).trans
    ((congrFun h _).trans (shapeCast_a_1a_apply _ _ 0 e))
  match a with
  | ⟨0, _⟩ => exact placed rfl
  | ⟨1, _⟩ => exact placed rfl

/-- The convolution's bias, as a row. -/
theorem block11 (o : Fin 256) : (iblk m c 11 t : FVec Ideal S1x256 .f32) (ix2 0 o) = (m ((c : Thread nD τ).loc main_arg11) : FVec Ideal S256 .f32) (ix1 o) := by
  have h : (V m c main_call0_v6 : FVec Ideal S1x256 .f32) = shapeCast S1x256 (m ((c : Thread nD τ).loc main_arg11) : FVec Ideal S256 .f32) shapeCasts_S256_S1x256 := by
    entry_read
    rfl
  refine (congrArg (V m c main_call0_v6 : FVec Ideal S1x256 .f32) (funext fun a => Fin.ext (?_ : _ = (ix2 (0 : Fin 1) o a).val))).trans
    ((congrFun h _).trans (shapeCast_a_1a_apply _ _ 0 o))
  match a with
  | ⟨0, _⟩ => exact placed rfl
  | ⟨1, _⟩ => exact placed rfl

/-- The convolution's weights, taps first. -/
theorem block10 (k : Fin 5) (i o : Fin 256) :
    (iblk m c 10 t : FVec Ideal S5x256x256 .bf16) (ix3 k i o) = (m ((c : Thread nD τ).loc main_arg10) : FVec Ideal S256x256x5 .f32) (ix3 o i k) := by
  have h : (V m c main_call0_v3 : FVec Ideal S5x256x256 .bf16)
      = (truncf .bf16 (transpose S5x256x256 [2, 1, 0] (m ((c : Thread nD τ).loc main_arg10) : FVec Ideal S256x256x5 .f32) transposes_S256x256x5_S5x256x256_2_1_0)
        bitsLt_bf16_f32 : FVec Ideal S5x256x256 .bf16) := by
    entry_read
    rfl
  refine (congrArg (V m c main_call0_v3 : FVec Ideal S5x256x256 .bf16) (funext fun a => Fin.ext (?_ : _ = (ix3 k i o a).val))).trans
    ((congrFun h _).trans (transpose_apply [2, 1, 0] (m ((c : Thread nD τ).loc main_arg10) : FVec Ideal S256x256x5 .f32) transposes_S256x256x5_S5x256x256_2_1_0 (ix3 k i o) (ix3 o i k) fun b => ?_))
  · match a with
    | ⟨0, _⟩ => exact placed rfl
    | ⟨1, _⟩ => exact placed rfl
    | ⟨2, _⟩ => exact placed rfl
  · match b with
    | ⟨0, _⟩ => rfl
    | ⟨1, _⟩ => rfl
    | ⟨2, _⟩ => rfl

/-- The arguments' first weights. -/
abbrev first : Weights := weights (m ((c : Thread nD τ).loc main_arg2) : FVec Ideal S64x8 .f32) (m ((c : Thread nD τ).loc main_arg3) : FVec Ideal S8 .f32)
  (m ((c : Thread nD τ).loc main_arg4) : FVec Ideal S8x64x128 .f32) (m ((c : Thread nD τ).loc main_arg5) : FVec Ideal S8x128 .f32)

/-- The arguments' second weights. -/
abbrev second : Weights := weights (m ((c : Thread nD τ).loc main_arg6) : FVec Ideal S64x8 .f32) (m ((c : Thread nD τ).loc main_arg7) : FVec Ideal S8 .f32)
  (m ((c : Thread nD τ).loc main_arg8) : FVec Ideal S8x64x128 .f32) (m ((c : Thread nD τ).loc main_arg9) : FVec Ideal S8x128 .f32)

/-- The arguments that must be real numbers: the two inputs and the experts' weights and biases. -/
structure Real : Prop where
  a : ∀ i, IsReal ((m ((c : Thread nD τ).loc main_arg0) : FVec Ideal S4x2048x64 .f32) i)
  d : ∀ i, IsReal ((m ((c : Thread nD τ).loc main_arg1) : FVec Ideal S4x2048x64 .f32) i)
  aw : ∀ i, IsReal ((m ((c : Thread nD τ).loc main_arg4) : FVec Ideal S8x64x128 .f32) i)
  ab : ∀ i, IsReal ((m ((c : Thread nD τ).loc main_arg5) : FVec Ideal S8x128 .f32) i)
  dw : ∀ i, IsReal ((m ((c : Thread nD τ).loc main_arg8) : FVec Ideal S8x64x128 .f32) i)
  db : ∀ i, IsReal ((m ((c : Thread nD τ).loc main_arg9) : FVec Ideal S8x128 .f32) i)

variable {m c}

/-- The first branch's scratch matrices hold its weights. -/
theorem holds_first (H : Real m c) : Holds (first m c) (Scratch.gate (iblk m c 2 t) (iblk m c 3 t)) (Scratch.experts (iblk m c 4 t) (iblk m c 5 t)) := by
  have h := Scratch.holds (iblk m c 2 t) (iblk m c 3 t) (iblk m c 4 t) (iblk m c 5 t) (by rw [block4]; exact H.aw) (by rw [block5]; exact H.ab)
  have e : (fun e : Fin 8 => (iblk m c 3 t : FVec Ideal S1x8 .f32) (ix2 0 e)) = fun e => (m ((c : Thread nD τ).loc main_arg3) : FVec Ideal S8 .f32) (ix1 e) :=
    funext (block3 m c t)
  rw [e] at h
  rw [block2, block4, block5] at h ⊢
  exact h

/-- The second branch's scratch matrices hold its weights. -/
theorem holds_second (H : Real m c) : Holds (second m c) (Scratch.gate (iblk m c 6 t) (iblk m c 7 t)) (Scratch.experts (iblk m c 8 t) (iblk m c 9 t)) := by
  have h := Scratch.holds (iblk m c 6 t) (iblk m c 7 t) (iblk m c 8 t) (iblk m c 9 t) (by rw [block8]; exact H.dw) (by rw [block9]; exact H.db)
  have e : (fun e : Fin 8 => (iblk m c 7 t : FVec Ideal S1x8 .f32) (ix2 0 e)) = fun e => (m ((c : Thread nD τ).loc main_arg7) : FVec Ideal S8 .f32) (ix1 e) :=
    funext (block7 m c t)
  rw [e] at h
  rw [block6, block8, block9] at h ⊢
  exact h

/-- A point's chunks are the result on its two sequences. -/
theorem chunks_result (H : Real m c) {gt et gd ed} (ht : Holds (first m c) gt et) (hd : Holds (second m c) gd ed) (u : Fin 2) (l : Fin 2048) (o : Fin 256)
    (n : Fin 4) (hn : n.val = 2 * t.val + u.val) :
    View.canon (Chunks.chunks (iblk m c 0 t) (iblk m c 1 t) gt et gd ed (iblk m c 10 t) (iblk m c 11 t)) (ix3 u l o)
      = result (m ((c : Thread nD τ).loc main_arg0) : FVec Ideal S4x2048x64 .f32) (m ((c : Thread nD τ).loc main_arg1) : FVec Ideal S4x2048x64 .f32)
        (first m c) (second m c) (m ((c : Thread nD τ).loc main_arg10) : FVec Ideal S256x256x5 .f32) (m ((c : Thread nD τ).loc main_arg11) : FVec Ideal S256 .f32) n l o := by
  have bound (v : Fin 2) : 2 * t.val + v.val < 4 := by have : t.val < 2 := lt_of_lt_of_eq t.isLt N_0; omega
  have fA : ∀ i, IsReal ((iblk m c 0 t : FVec Ideal S2x2048x64 .bf16) i) := fun i => by
    obtain ⟨v, k, j, rfl⟩ : ∃ (v : Fin 2) (k : Fin 2048) (j : Fin 64), i = ix3 v k j := ⟨i 0, i 1, i 2, ValueIdx.eq_ix3 i⟩
    rw [block0 m c t v k j ⟨_, bound v⟩ rfl]
    exact H.a _
  have fD : ∀ i, IsReal ((iblk m c 1 t : FVec Ideal S2x2048x64 .bf16) i) := fun i => by
    obtain ⟨v, k, j, rfl⟩ : ∃ (v : Fin 2) (k : Fin 2048) (j : Fin 64), i = ix3 v k j := ⟨i 0, i 1, i 2, ValueIdx.eq_ix3 i⟩
    rw [block1 m c t v k j ⟨_, bound v⟩ rfl]
    exact H.d _
  refine (chunks_eq ht hd fA fD (ix3 u l o) (chunks_cover _)).trans ?_
  unfold both result
  rw [show (fun k j => (iblk m c 0 t : FVec Ideal S2x2048x64 .bf16) (ix3 ((ix3 u l o : S2x2048x256.Idx) 0) k j)) = _ from funext₂ fun k j => block0 m c t u k j n hn,
    show (fun k j => (iblk m c 1 t : FVec Ideal S2x2048x64 .bf16) (ix3 ((ix3 u l o : S2x2048x256.Idx) 0) k j)) = _ from funext₂ fun k j => block1 m c t u k j n hn,
    show (fun k i o => (iblk m c 10 t : FVec Ideal S5x256x256 .bf16) (ix3 k i o)) = _ from funext₃ fun k i o => block10 m c t k i o,
    show (fun o => (iblk m c 11 t : FVec Ideal S1x256 .f32) (ix2 0 o)) = _ from funext fun o => block11 m c t o]

/-- What the array ends holding is the result. -/
theorem array_result (H : Real m c) (n : Fin 4) (l : Fin 2048) (o : Fin 256) :
    (G12 m c : FVec Ideal S4x2048x256 .f32) (ix3 n l o)
      = result (m ((c : Thread nD τ).loc main_arg0) : FVec Ideal S4x2048x64 .f32) (m ((c : Thread nD τ).loc main_arg1) : FVec Ideal S4x2048x64 .f32)
        (first m c) (second m c) (m ((c : Thread nD τ).loc main_arg10) : FVec Ideal S256x256x5 .f32) (m ((c : Thread nD τ).loc main_arg11) : FVec Ideal S256 .f32) n l o := by
  have hloc : loc12Of (ix3 n l o) = ix3 (⟨n.val % 2, Nat.mod_lt _ (by decide)⟩ : Fin 2) l o := funext fun a => Fin.ext (by
    match a with
    | ⟨0, _⟩ => rfl
    | ⟨1, _⟩ => exact Nat.mod_eq_of_lt l.isLt
    | ⟨2, _⟩ => exact Nat.mod_eq_of_lt o.isLt)
  have hpt : pt12Of (ix3 n l o) = n.val / 2 := by
    show 1 * (n.val / 2 - 0) + 1 * (l.val / 2048 - 0) + 1 * (o.val / 256 - 0) = n.val / 2
    omega
  have hN : pt12Of (ix3 n l o) < cfg0.N := lt_of_lt_of_eq (b := 2) (by rw [hpt]; omega) N_0.symm
  have point : ∀ (j : ℕ) (hj : 0 + j < cfg0.N), j = n.val / 2 →
      (Pipeline.accAt (fun n h => stAt0 m c n h junk0) (stAt0 m c) 0 j hj).1 (ix3 (⟨n.val % 2, Nat.mod_lt _ (by decide)⟩ : Fin 2) l o)
        = result (m ((c : Thread nD τ).loc main_arg0) : FVec Ideal S4x2048x64 .f32) (m ((c : Thread nD τ).loc main_arg1) : FVec Ideal S4x2048x64 .f32)
        (first m c) (second m c) (m ((c : Thread nD τ).loc main_arg10) : FVec Ideal S256x256x5 .f32) (m ((c : Thread nD τ).loc main_arg11) : FVec Ideal S256 .f32) n l o := by
    intro j hj hjn
    rcases (by omega : j = 0 ∨ j = 1) with rfl | rfl
    · rw [Pipeline.accAt_zero, Point.first m c ⟨0, hj⟩ junk0 rfl]
      exact chunks_result ⟨0, hj⟩ H (holds_first _ H) (holds_second _ H) _ l o n (by show n.val = 2 * 0 + n.val % 2; omega)
    · rw [Pipeline.accAt_succ, Pipeline.accAt_zero]
      have h0 : 0 < cfg0.N := by omega
      refine (congrFun (Point.later m c ⟨1, hj⟩ (stAt0 m c 0 h0 junk0) (by show ¬ (1 % 2 = 0); decide)) _).trans ?_
      rw [Point.scratch0 m c ⟨0, h0⟩ junk0 rfl, Point.scratch1 m c ⟨0, h0⟩ junk0 rfl, Point.scratch2 m c ⟨0, h0⟩ junk0 rfl, Point.scratch3 m c ⟨0, h0⟩ junk0 rfl]
      exact chunks_result ⟨1, hj⟩ H (holds_first _ H) (holds_second _ H) _ l o n (by show n.val = 2 * 1 + n.val % 2; omega)
  show G12 m c (ix3 n l o) = _
  unfold G12
  rw [dif_pos hN, hloc]
  exact point _ _ hpt

end Cert.Array

end
-- ==== Proof.Mixture.lean ====
module

public import proofs.«01_k».proof.Proof.Gen.ReferenceIdeal.Read
public import proofs.«01_k».proof.Proof.Result

/-!
# What the reference computes in one branch

The reference's gate, experts and their weighted sum at one position are the mixture of experts of Proof/Spec.lean.
-/

@[expose] public section

noncomputable section

namespace Cert.Mixture

open Idealize.ShloMosaic hiding ix1 ix2 ix3 ix4
open Idealize.ShloMosaic.ValueIdx Cert.Spec Cert.Result
open Cert.ReferenceIdeal Cert.ReferenceIdeal.Gen Cert.ReferenceIdeal.Read

variable (x : FVec Ideal S4x2048x64 .f32) (gw : FVec Ideal S64x8 .f32) (gb : FVec Ideal S8 .f32) (ew : FVec Ideal S8x64x128 .f32) (eb : FVec Ideal S8x128 .f32)

/-- The gate's logits. -/
theorem logits (n : Fin 4) (l : Fin 2048) (e : Fin 8) :
    (val_main_v3 (F := Ideal) x gw gb : FVec Ideal S4x2048x8 .f32) (ix3 n l e) = logit (fun j => x (ix3 n l j)) (fun i e => gw (ix2 i e)) (fun e => gb (ix1 e)) e := by
  rw [val_main_v3_apply, val_main_v0_apply, val_main_v2_apply, val_main_v1_apply]
  refine congrArg₂ (· + ·) (Finset.sum_congr rfl fun k _ => congrArg₂ (· * ·) (congrArg x (funext fun a => ?_)) (congrArg gw (funext fun a => ?_))) (congrArg gb (funext fun a => ?_))
  · match a with
    | ⟨0, _⟩ => rfl
    | ⟨1, _⟩ => rfl
    | ⟨2, _⟩ => rfl
  · match a with
    | ⟨0, _⟩ => rfl
    | ⟨1, _⟩ => rfl
  · match a with
    | ⟨0, _⟩ => rfl

/-- The largest logit. -/
theorem tops (n : Fin 4) (l : Fin 2048) :
    (val_main_v6 (F := Ideal) x gw gb : FVec Ideal S4x2048 .f32) (ix2 n l) = top (logit (fun j => x (ix3 n l j)) (fun i e => gw (ix2 i e)) (fun e => gb (ix1 e))) := by
  have h4 : (val_main_v4 (F := Ideal) x gw gb : FVec Ideal S4x2048 .f32) (ix2 n l) = top (logit (fun j => x (ix3 n l j)) (fun i e => gw (ix2 i e)) (fun e => gb (ix1 e))) := by
    unfold val_main_v4
    refine (Host.reduce_eq_fold (max : EReal → EReal → EReal) _ _ reducesTo_S4x2048x8_S4x2048_d2 h_S_ (ix2 n l)).trans ?_
    refine (Shape.ReducesTo.fold_fiber_r3_a2 reducesTo_S4x2048x8_S4x2048_d2 (ix2 n l) _ _ _).trans ?_
    rw [val_main_cst_apply]
    show Finset.univ.fold max (Ideal.ofBits .f32 0xFF800000#32) _ = _
    rw [Rows.neg_inf]
    exact congrArg (Finset.univ.fold max ⊥) (funext fun e => logits x gw gb n l e)
  rw [val_main_v6_apply, h4, val_main_v5_apply, val_main_cst_0_apply]
  show max (Ideal.ofBits .f32 0xFF800000#32) _ = _
  rw [Rows.neg_inf]
  exact max_eq_right bot_le

/-- A logit's exponential, over the largest. -/
theorem exps (n : Fin 4) (l : Fin 2048) (e : Fin 8) :
    (val_main_v10 (F := Ideal) x gw gb : FVec Ideal S4x2048x8 .f32) (ix3 n l e)
      = Ideal.exp (logit (fun j => x (ix3 n l j)) (fun i e => gw (ix2 i e)) (fun e => gb (ix1 e)) e - top (logit (fun j => x (ix3 n l j)) (fun i e => gw (ix2 i e)) (fun e => gb (ix1 e)))) := by
  rw [val_main_v10_apply, val_main_v9_apply, val_main_v8_apply, val_main_v7_apply]
  exact congrArg Ideal.exp (congrArg₂ (· - ·) (logits x gw gb n l e) ((congrArg _ (funext fun a => by
    match a with
    | ⟨0, _⟩ => rfl
    | ⟨1, _⟩ => rfl)).trans (tops x gw gb n l)))

/-- The softmax weight. -/
theorem gates (n : Fin 4) (l : Fin 2048) (e : Fin 8) :
    (val_main_v14 (F := Ideal) x gw gb : FVec Ideal S4x2048x8 .f32) (ix3 n l e) = gate (logit (fun j => x (ix3 n l j)) (fun i e => gw (ix2 i e)) (fun e => gb (ix1 e))) e := by
  rw [val_main_v14_apply, exps, val_main_v13_apply, val_main_v12_apply, val_main_v11_apply, val_main_cst_1_apply]
  refine congrArg (Ideal.div _) ?_
  show Ideal.ofBits .f32 0x00000000#32 + _ = _
  rw [Ideal.ofBits_zero_f32, zero_add]
  exact Finset.sum_congr rfl fun k _ => (congrArg _ (funext fun a => by
    match a with
    | ⟨0, _⟩ => rfl
    | ⟨1, _⟩ => rfl
    | ⟨2, _⟩ => rfl)).trans (exps x gw gb n l k)

/-- An expert's affine image. -/
theorem hiddens (n : Fin 4) (l : Fin 2048) (e : Fin 8) (o : Fin 128) :
    (val_main_v18 (F := Ideal) x ew eb : FVec Ideal S4x2048x8x128 .f32) (ix4 n l e o) = hidden (fun j => x (ix3 n l j)) (fun e i o => ew (ix3 e i o)) (fun e o => eb (ix2 e o)) e o := by
  rw [val_main_v18_apply, val_main_v15_apply, val_main_v17_apply, val_main_v16_apply]
  refine congrArg₂ (· + ·) (Finset.sum_congr rfl fun k _ => congrArg₂ (· * ·) (congrArg x (funext fun a => ?_)) (congrArg ew (funext fun a => ?_))) (congrArg eb (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl
  · match a with
    | ⟨0, _⟩ => rfl
    | ⟨1, _⟩ => rfl

/-- An expert's SiLU. -/
theorem silus (n : Fin 4) (l : Fin 2048) (e : Fin 8) (o : Fin 128) :
    (val_main_v19 (F := Ideal) x ew eb : FVec Ideal S4x2048x8x128 .f32) (ix4 n l e o) = silu (hidden (fun j => x (ix3 n l j)) (fun e i o => ew (ix3 e i o)) (fun e o => eb (ix2 e o)) e o) := by
  rw [val_main_v19_apply, val_main_call0_v5_apply, val_main_call0_v3_apply, val_main_call0_v1_apply, val_main_call0_v0_apply, hiddens,
    val_main_call0_v4_apply, val_main_call0_v2_apply, val_main_call0_cst_apply, val_main_call0_cst_0_apply]
  show _ * Ideal.div (Ideal.ofBits .f32 0x3F800000#32) (Ideal.ofBits .f32 0x3F800000#32 + Ideal.exp (-_)) = _
  rw [Ideal.ofBits_one_f32]
  rfl

/-- One position of one branch. -/
theorem mixture (n : Fin 4) (l : Fin 2048) (o : Fin 128) :
    (val_main_v20 (F := Ideal) x gw gb ew eb : FVec Ideal S4x2048x128 .f32) (ix3 n l o)
      = moe (fun j => x (ix3 n l j)) (fun i e => gw (ix2 i e)) (fun e => gb (ix1 e)) (fun e i o => ew (ix3 e i o)) (fun e o => eb (ix2 e o)) o := by
  rw [val_main_v20_apply]
  refine Finset.sum_congr rfl fun k _ => congrArg₂ (· * ·) ((congrArg _ (funext fun a => ?_)).trans (gates x gw gb n l k)) ((congrArg _ (funext fun a => ?_)).trans (silus x ew eb n l k o))
  · match a with
    | ⟨0, _⟩ => rfl
    | ⟨1, _⟩ => rfl
    | ⟨2, _⟩ => rfl
  · match a with
    | ⟨0, _⟩ => rfl
    | ⟨1, _⟩ => rfl
    | ⟨2, _⟩ => rfl
    | ⟨3, _⟩ => rfl

/-- The second branch is the first at its own arguments. -/
theorem again : val_main_v41 (F := Ideal) x gw gb ew eb = val_main_v20 (F := Ideal) x gw gb ew eb := rfl

end Cert.Mixture

end
-- ==== Proof.Reference.lean ====
module

public import proofs.«01_k».proof.Proof.Mixture
public import Idealize.ShloMosaic.Lib.Pointwise.ShapeOpsCore

/-!
# What the reference computes

The two branches' channels side by side, padded by two zero positions at each end; five shifted products with the
convolution's matrices; the bias and the rectifier: the layer's result.
-/

@[expose] public section

noncomputable section

namespace Cert.Reference

open Idealize.ShloMosaic hiding ix1 ix2 ix3 ix4
open Idealize.ShloMosaic.ValueIdx Cert.Spec Cert.Result Cert.Mixture
open Cert.ReferenceIdeal Cert.ReferenceIdeal.Gen Cert.ReferenceIdeal.Read

variable (a d : FVec Ideal S4x2048x64 .f32) (gw : FVec Ideal S64x8 .f32) (gb : FVec Ideal S8 .f32) (ew : FVec Ideal S8x64x128 .f32) (eb : FVec Ideal S8x128 .f32)
  (gw' : FVec Ideal S64x8 .f32) (gb' : FVec Ideal S8 .f32) (ew' : FVec Ideal S8x64x128 .f32) (eb' : FVec Ideal S8x128 .f32)
  (w : FVec Ideal S256x256x5 .f32) (b : FVec Ideal S256 .f32)

/-- The sequence's channels. -/
abbrev chans (n : Fin 4) : Fin 2048 → Fin 256 → EReal :=
  channels (fun l j => a (ix3 n l j)) (fun l j => d (ix3 n l j)) (weights gw gb ew eb) (weights gw' gb' ew' eb')

/-- The two branches side by side. -/
theorem joined (n : Fin 4) (l : Fin 2048) (i : Fin 256) :
    (val_main_v42 (F := Ideal) a d gw gb ew eb gw' gb' ew' eb' : FVec Ideal S4x2048x256 .f32) (ix3 n l i) = chans a d gw gb ew eb gw' gb' ew' eb' n l i := by
  unfold val_main_v42
  rw [again]
  unfold chans channels beside
  by_cases h : i.val < 128
  · rw [dif_pos h]
    refine (concatenate_pair_apply_left 2 _ _ concatenates_S4x2048x128_S4x2048x128_S4x2048x256_d2 (ix3 n l i) rfl (ix3 n l (⟨i.val, h⟩ : Fin 128)) fun t => ?_).trans (mixture a gw gb ew eb n l ⟨i.val, h⟩)
    match t with
    | ⟨0, _⟩ => rfl
    | ⟨1, _⟩ => rfl
    | ⟨2, _⟩ => rfl
  · rw [dif_neg h]
    refine (concatenate_pair_apply_right 2 _ _ concatenates_S4x2048x128_S4x2048x128_S4x2048x256_d2 (ix3 n l i) rfl rfl (ix3 n l (⟨i.val - 128, by omega⟩ : Fin 128)) (fun t ht => ?_) ?_).trans
      (mixture d gw' gb' ew' eb' n l ⟨i.val - 128, by omega⟩)
    · match t with
      | ⟨0, _⟩ => rfl
      | ⟨1, _⟩ => rfl
      | ⟨2, _⟩ => exact absurd rfl ht
    · show i.val - 128 + 128 = i.val
      omega

/-- The padded channels, at an index given by its three places. -/
theorem pads (n : Fin 4) (p : ℕ) (i : Fin 256) (y : S4x2052x256.Idx) (h0 : (y 0).val = n.val) (h1 : (y 1).val = p) (h2 : (y 2).val = i.val) :
    (val_main_v43 (F := Ideal) a d gw gb ew eb gw' gb' ew' eb' : FVec Ideal S4x2052x256 .f32) y = padded (chans a d gw gb ew eb gw' gb' ew' eb' n) p i := by
  unfold val_main_v43
  refine (pad_apply (s := S4x2048x256) (t := S4x2052x256) ![0, 2, 0] ![0, 2, 0] ![0, 0, 0] _ _ pads_S4x2048x256_S4x2052x256_000_220_000 h_S_ y).trans ?_
  unfold padded
  by_cases h : 2 ≤ p ∧ p < 2050
  · rw [dif_pos h, dif_pos (fun t => by
      match t with
      | ⟨0, _⟩ => exact ⟨Nat.zero_le _, Nat.mod_one _, by show ((y 0).val - 0) / 1 < 4; omega⟩
      | ⟨1, _⟩ => exact ⟨by show 2 ≤ (y 1).val; omega, Nat.mod_one _, by show ((y 1).val - 2) / 1 < 2048; omega⟩
      | ⟨2, _⟩ => exact ⟨Nat.zero_le _, Nat.mod_one _, by show ((y 2).val - 0) / 1 < 256; omega⟩)]
    refine (congrArg _ (funext fun t => Fin.ext ?_)).trans (joined a d gw gb ew eb gw' gb' ew' eb' n ⟨p - 2, by omega⟩ i)
    match t with
    | ⟨0, _⟩ => show ((y 0).val - 0) / 1 = n.val; omega
    | ⟨1, _⟩ => show ((y 1).val - 2) / 1 = p - 2; omega
    | ⟨2, _⟩ => show ((y 2).val - 0) / 1 = i.val; omega
  · rw [dif_neg h, dif_neg (fun hin => h (by
      have h3 : 2 ≤ (y 1).val ∧ _ ∧ ((y 1).val - 2) / 1 < 2048 := hin 1
      omega))]
    rw [val_main_call2_v0_apply, val_main_c_apply]
    show (((0#32 : BitVec 32).toInt : ℝ) : EReal) = 0
    simp

/-- One entry of a tap's matrix. -/
theorem entry (o i : Fin 256) (k : Fin 5) (y : S256x256x5.Idx) (h0 : (y 0).val = o.val) (h1 : (y 1).val = i.val) (h2 : (y 2).val = k.val) : w y = w (ix3 o i k) :=
  congrArg w (funext fun t => Fin.ext (by
    match t with
    | ⟨0, _⟩ => exact h0
    | ⟨1, _⟩ => exact h1
    | ⟨2, _⟩ => exact h2))

/-- A tap's product, its operands read at indices given by their places. -/
theorem product (n : Fin 4) (l : Fin 2048) (o : Fin 256) (k : Fin 5) (u : Fin 256 → S4x2052x256.Idx) (v : Fin 256 → S256x256x5.Idx)
    (hu0 : ∀ i, (u i 0).val = n.val) (hu1 : ∀ i, (u i 1).val = l.val + k.val) (hu2 : ∀ i, (u i 2).val = i.val)
    (hv0 : ∀ i, (v i 0).val = (o.val * 256 + i.val) / 256) (hv1 : ∀ i, (v i 1).val = (o.val * 256 + i.val) / 1 % 256) (hv2 : ∀ i, (v i 2).val = k.val) :
    ∑ i, (val_main_v43 (F := Ideal) a d gw gb ew eb gw' gb' ew' eb' : FVec Ideal S4x2052x256 .f32) (u i) * w (v i)
      = tap (padded (chans a d gw gb ew eb gw' gb' ew' eb' n) (l.val + k.val)) (fun i => w (ix3 o i k)) :=
  Finset.sum_congr rfl fun i _ => congrArg₂ (· * ·) (pads a d gw gb ew eb gw' gb' ew' eb' n _ i _ (hu0 i) (hu1 i) (hu2 i))
    (entry w o i k _ ((hv0 i).trans (by omega)) ((hv1 i).trans (by omega)) (hv2 i))

/-- The reference's result, entry by entry. -/
theorem reference (n : Fin 4) (l : Fin 2048) (o : Fin 256) :
    (val_main_v71 (F := Ideal) a d gw gb ew eb gw' gb' ew' eb' w b : FVec Ideal S4x2048x256 .f32) (ix3 n l o)
      = result a d (weights gw gb ew eb) (weights gw' gb' ew' eb') w b n l o := by
  rw [val_main_v71_apply, val_main_v70_apply, val_main_v67_apply, val_main_v62_apply, val_main_v57_apply, val_main_v52_apply, val_main_v47_apply,
    val_main_v51_apply, val_main_v56_apply, val_main_v61_apply, val_main_v66_apply, val_main_v69_apply, val_main_v68_apply, val_main_call3_v0_apply, val_main_call3_cst_apply]
  simp only [val_main_v44_apply, val_main_v48_apply, val_main_v53_apply, val_main_v58_apply, val_main_v63_apply, val_main_v46_apply, val_main_v50_apply, val_main_v55_apply,
    val_main_v60_apply, val_main_v65_apply, val_main_v45_apply, val_main_v49_apply, val_main_v54_apply, val_main_v59_apply, val_main_v64_apply]
  rw [product a d gw gb ew eb gw' gb' ew' eb' w n l o 0 _ _ (fun _ => rfl) (fun _ => rfl) (fun _ => rfl) (fun _ => rfl) (fun _ => rfl) (fun _ => rfl),
    product a d gw gb ew eb gw' gb' ew' eb' w n l o 1 _ _ (fun _ => rfl) (fun _ => Nat.add_comm _ _) (fun _ => rfl) (fun _ => rfl) (fun _ => rfl) (fun _ => rfl),
    product a d gw gb ew eb gw' gb' ew' eb' w n l o 2 _ _ (fun _ => rfl) (fun _ => Nat.add_comm _ _) (fun _ => rfl) (fun _ => rfl) (fun _ => rfl) (fun _ => rfl),
    product a d gw gb ew eb gw' gb' ew' eb' w n l o 3 _ _ (fun _ => rfl) (fun _ => Nat.add_comm _ _) (fun _ => rfl) (fun _ => rfl) (fun _ => rfl) (fun _ => rfl),
    product a d gw gb ew eb gw' gb' ew' eb' w n l o 4 _ _ (fun _ => rfl) (fun _ => Nat.add_comm _ _) (fun _ => rfl) (fun _ => rfl) (fun _ => rfl) (fun _ => rfl)]
  show max _ (Ideal.ofBits .f32 0x00000000#32) = _
  rw [Ideal.ofBits_zero_f32]
  refine congrArg (max · (0 : EReal)) (congrArg₂ (· + ·) rfl (congrArg b (funext fun t => ?_)))
  match t with
  | ⟨0, _⟩ => rfl

end Cert.Reference

end
-- ==== Proof.Finite.lean ====
module

public import proofs.«01_k».proof.Defs
public import proofs.«01_k».proof.Proof.Gen.Pre_finite_experts
public import proofs.«01_k».proof.Proof.Array

/-!
# What the precondition says

The precondition compares the absolute value of every entry of six arrays with plus infinity; where the comparison
holds, the entry is a real number.
-/

@[expose] public section

noncomputable section

namespace Cert.Finite

open Idealize.ShloMosaic Cert.Spec

/-- An extended real whose absolute value is below plus infinity is a real number. -/
theorem real_of_abs_lt (x : EReal) (h : max x (-x) < ⊤) : IsReal x :=
  ⟨fun e => by simp [e] at h, fun e => by simp [e] at h⟩

/-- The comparison's word at one entry, read back. -/
theorem real_of_word (x : EReal) (h : Ideal.cmp .olt (max x (-x)) (Ideal.ofBits .f32 0x7F800000#32) = 1#1) : IsReal x := by
  have top : Ideal.ofBits .f32 0x7F800000#32 = (⊤ : EReal) := by simp [Ideal.ofBits, Ideal.ieee]
  refine real_of_abs_lt x ?_
  rw [← top]
  by_contra hc
  change BitVec.ofBool (decide (max x (-x) < Ideal.ofBits .f32 0x7F800000#32)) = 1#1 at h
  rw [decide_eq_false hc] at h
  exact absurd h (by decide)

/-- Under the precondition the two inputs and the experts' weights are real numbers. -/
theorem real (m : (ℓ : Loc Cert.KernelIdeal.nD Cert.KernelIdeal.τ Cert.KernelIdeal.sig) → Buf (Elt Ideal) ℓ)
    (h : Cert.Pre_KernelIdeal_finite_experts m) (c : Dev Cert.KernelIdeal.nD) : Cert.Array.Real m c := by
  obtain ⟨h0, h1, h4, h5, h8, h9⟩ := h c
  exact ⟨fun i => real_of_word _ (congrFun h0 i), fun i => real_of_word _ (congrFun h1 i), fun i => real_of_word _ (congrFun h4 i),
    fun i => real_of_word _ (congrFun h5 i), fun i => real_of_word _ (congrFun h8 i), fun i => real_of_word _ (congrFun h9 i)⟩

end Cert.Finite

end
-- ==== Proof.lean ====
/-
The certificate: the kernel terminates, keeps its arguments and leaves its semaphores at zero, at the words and over the
extended reals; and over the extended reals it computes what the plain layer computes.

The kernel's output array is read at an index in Proof/Array.lean, the reference's in Proof/Reference.lean; both are
`Cert.Result.result` there, so the value claim is the two put side by side.
-/
module

public import proofs.«01_k».proof.Defs
public import proofs.«01_k».proof.Proof.Gen.Kernel.Frame
public import proofs.«01_k».proof.Proof.Gen.KernelIdeal.Value
public import proofs.«01_k».proof.Proof.Gen.Pre_finite_experts
public import proofs.«01_k».proof.Proof.Gen.ReferenceIdeal.Run
public import proofs.«01_k».proof.Proof.Array
public import proofs.«01_k».proof.Proof.Reference
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.SL.Sem

/-- The reference terminates, keeps its arguments, and has no semaphore to leave raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the precondition holds. -/
theorem quiescent_ReferenceIdeal_pre : quiescent_ReferenceIdeal_pre_finite_experts := fun m ρ _ =>
  quiescent_ReferenceIdeal m ρ trivial

/-- On equal arguments of which the inputs and the experts' weights are finite, kernel and reference end with equal results. -/
theorem algebraic_KernelIdeal_ReferenceIdeal : algebraic_KernelIdeal_ReferenceIdeal_pre_finite_experts := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v71_eq]
  simp only [hagree c]
  refine funext fun i => ?_
  rw [ValueIdx.eq_ix3 i]
  exact (Cert.Reference.reference _ _ _ _ _ _ _ _ _ _ _ _ _ _ _).trans (Cert.Array.array_result (Cert.Finite.real m hpre c) _ _ _).symm

/-- Every claim of the statement. -/
theorem claim : Cert.Claim := ⟨Cert.Kernel.Gen.facts, Cert.KernelIdeal.Gen.facts, Cert.ReferenceIdeal.Gen.facts, Cert.Pre_finite_experts.Gen.facts,
  fun m ρ _ => Cert.Kernel.Gen.frame m ρ, fun m ρ _ => Cert.KernelIdeal.Gen.frame m ρ, fun m ρ _ => Cert.KernelIdeal.Gen.frame m ρ, quiescent_ReferenceIdeal, quiescent_ReferenceIdeal_pre, (trivial : preserves_Kernel_KernelIdeal), algebraic_KernelIdeal_ReferenceIdeal⟩

end Cert.Proof

end
